-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8388608 : Shape := ⟨1, ![8388608]⟩
abbrev S9 : Shape := ⟨1, ![9]⟩
abbrev S_ : Shape := ⟨0, ![]⟩
abbrev S9x1 : Shape := ⟨2, ![9, 1]⟩
abbrev S16 : Shape := ⟨1, ![16]⟩
abbrev S1 : Shape := ⟨1, ![1]⟩
abbrev S2097152 : Shape := ⟨1, ![2097152]⟩
abbrev S16384 : Shape := ⟨1, ![16384]⟩
abbrev S1048576 : Shape := ⟨1, ![1048576]⟩

abbrev nBuf : Table → Nat
  | .hbm => 21
  | .local .tc .vmem => 4
  | .local .tc .smem => 1
  | .local .scVector .vmem => 5
  | _ => 0

abbrev bufTy : (tb : Table) → Fin (nBuf tb) → BufTy
  | .hbm, ⟨0, _⟩ => ⟨S8388608, .f32⟩
  | .hbm, ⟨1, _⟩ => ⟨S9, .i32⟩
  | .hbm, ⟨2, _⟩ => ⟨S_, .i32⟩
  | .hbm, ⟨3, _⟩ => ⟨S9, .i32⟩
  | .hbm, ⟨4, _⟩ => ⟨S9, .i1⟩
  | .hbm, ⟨5, _⟩ => ⟨S_, .i32⟩
  | .hbm, ⟨6, _⟩ => ⟨S9, .i32⟩
  | .hbm, ⟨7, _⟩ => ⟨S9, .i32⟩
  | .hbm, ⟨8, _⟩ => ⟨S9, .i32⟩
  | .hbm, ⟨9, _⟩ => ⟨S9x1, .i32⟩
  | .hbm, ⟨10, _⟩ => ⟨S9, .f32⟩
  | .hbm, ⟨11, _⟩ => ⟨S9, .f32⟩
  | .hbm, ⟨12, _⟩ => ⟨S_, .f32⟩
  | .hbm, ⟨13, _⟩ => ⟨S16, .f32⟩
  | .hbm, ⟨14, _⟩ => ⟨S_, .i32⟩
  | .hbm, ⟨15, _⟩ => ⟨S1, .i32⟩
  | .hbm, ⟨16, _⟩ => ⟨S16, .f32⟩
  | .hbm, ⟨17, _⟩ => ⟨S2097152, .i32⟩
  | .hbm, ⟨18, _⟩ => ⟨S8388608, .i32⟩
  | .hbm, ⟨19, _⟩ => ⟨S_, .i32⟩
  | .hbm, ⟨20, _⟩ => ⟨S8388608, .i32⟩
  | .local .tc .vmem, ⟨0, _⟩ => ⟨S1048576, .f32⟩
  | .local .tc .vmem, ⟨1, _⟩ => ⟨S1048576, .f32⟩
  | .local .tc .vmem, ⟨2, _⟩ => ⟨S1048576, .i32⟩
  | .local .tc .vmem, ⟨3, _⟩ => ⟨S1048576, .i32⟩
  | .local .tc .smem, ⟨0, _⟩ => ⟨S16, .f32⟩
  | .local .scVector .vmem, ⟨0, _⟩ => ⟨S16, .f32⟩
  | .local .scVector .vmem, ⟨1, _⟩ => ⟨S16384, .f32⟩
  | .local .scVector .vmem, ⟨2, _⟩ => ⟨S16384, .f32⟩
  | .local .scVector .vmem, ⟨3, _⟩ => ⟨S16384, .i32⟩
  | .local .scVector .vmem, ⟨4, _⟩ => ⟨S16384, .i32⟩
  | _, _ => ⟨S8388608, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_arg0_scv : Ref sig .scVector := ⟨.hbm, 0, rfl⟩
abbrev main_v10_scv : Ref sig .scVector := ⟨.hbm, 16, rfl⟩
abbrev main_v11_scv : Ref sig .scVector := ⟨.hbm, 17, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let v4 : BitVec 32 := Scalar.addi v3 c0_i32
  ![v4.toNat]
@[reducible] def k0_t1_loop : Scf.Loop 32 :=
  let c0_i32_6 : BitVec 32 := 0#32
  let c2_i32_7 : BitVec 32 := 2#32
  let v49 : BitVec 32 := Scalar.addi c0_i32_6 c2_i32_7
  let c1_i32_8 : BitVec 32 := 1#32
  ⟨c0_i32_6, v49, c1_i32_8⟩
def k0_off2 (i : grid0.Coords) (k0_t1 : Fin k0_t1_loop.trips) (c0_i32_13 : BitVec 32) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let c2_i32_12 : BitVec 32 := 2#32
  let c0_i32_6 : BitVec 32 := 0#32
  let c1_i32_8 : BitVec 32 := 1#32
  let arg14 : BitVec 32 := Scf.iv c0_i32_6 c1_i32_8 k0_t1
  let v59 : BitVec 32 := Scalar.muli c2_i32_12 arg14
  let v60 : BitVec 32 := Scalar.addi v59 c0_i32_13
  let c16384_i32_14 : BitVec 32 := 16384#32
  let v61 : BitVec 32 := Scalar.muli v60 c16384_i32_14
  let v62 : BitVec 32 := Scalar.addi v3 v61
  ![v62.toNat]
def k0_cond1 (k0_t1 : Fin k0_t1_loop.trips) : BitVec 1 :=
  let c0_i32_6 : BitVec 32 := 0#32
  let c1_i32_8 : BitVec 32 := 1#32
  let arg14 : BitVec 32 := Scf.iv c0_i32_6 c1_i32_8 k0_t1
  let c0_i32_15 : BitVec 32 := 0#32
  let v65 : BitVec 1 := Scalar.cmpi .sgt arg14 c0_i32_15
  let v66 : BitVec 32 := Scalar.extui v65
  let c0_i32_16 : BitVec 32 := 0#32
  let v67 : BitVec 1 := Scalar.cmpi .ne v66 c0_i32_16
  v67

def k0_off3 (i : grid0.Coords) (k0_t1 : Fin k0_t1_loop.trips) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let c2_i32_12 : BitVec 32 := 2#32
  let c0_i32_6 : BitVec 32 := 0#32
  let c1_i32_8 : BitVec 32 := 1#32
  let arg14 : BitVec 32 := Scf.iv c0_i32_6 c1_i32_8 k0_t1
  let v59 : BitVec 32 := Scalar.muli c2_i32_12 arg14
  let c0_i32_13 : BitVec 32 := 0#32
  let v60 : BitVec 32 := Scalar.addi v59 c0_i32_13
  let c16384_i32_14 : BitVec 32 := 16384#32
  let v61 : BitVec 32 := Scalar.muli v60 c16384_i32_14
  let v62 : BitVec 32 := Scalar.addi v3 v61
  let c32768_i32_36 : BitVec 32 := 32768#32
  let v91 : BitVec 32 := Scalar.subi v62 c32768_i32_36
  let c6291456_i32_37 : BitVec 32 := 6291456#32
  let v92 : BitVec 32 := Scalar.subi v91 c6291456_i32_37
  ![v92.toNat]
@[reducible] def k0_t2_loop : Scf.Loop 32 :=
  let c0_i32_17 : BitVec 32 := 0#32
  let c1024_i32 : BitVec 32 := 1024#32
  let v68 : BitVec 32 := Scalar.addi c0_i32_17 c1024_i32
  let c1_i32_18 : BitVec 32 := 1#32
  ⟨c0_i32_17, v68, c1_i32_18⟩
def k0_off4 (k0_t2 : Fin k0_t2_loop.trips) : Fin 1 → Nat :=
  let c0_i32_36 : BitVec 32 := 0#32
  let c0_i32_17 : BitVec 32 := 0#32
  let c1_i32_18 : BitVec 32 := 1#32
  let arg16 : BitVec 32 := Scf.iv c0_i32_17 c1_i32_18 k0_t2
  let c16_i32 : BitVec 32 := 16#32
  let v91 : BitVec 32 := Scalar.muli arg16 c16_i32
  let v92 : BitVec 32 := Scalar.addi c0_i32_36 v91
  let v93 : Index := Scalar.indexCast v92
  ![v93.toNat]
def k0_off5 (i : grid0.Coords) (k0_t1 : Fin k0_t1_loop.trips) (c0_i32_13 : BitVec 32) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let c2_i32_12 : BitVec 32 := 2#32
  let c0_i32_6 : BitVec 32 := 0#32
  let c1_i32_8 : BitVec 32 := 1#32
  let arg14 : BitVec 32 := Scf.iv c0_i32_6 c1_i32_8 k0_t1
  let v59 : BitVec 32 := Scalar.muli c2_i32_12 arg14
  let v60 : BitVec 32 := Scalar.addi v59 c0_i32_13
  let c16384_i32_14 : BitVec 32 := 16384#32
  let v61 : BitVec 32 := Scalar.muli v60 c16384_i32_14
  let v62 : BitVec 32 := Scalar.addi v3 v61
  let c6291456_i32_20 : BitVec 32 := 6291456#32
  let v69 : BitVec 32 := Scalar.subi v62 c6291456_i32_20
  ![v69.toNat]
def k0_cond2 (k0_t1 : Fin k0_t1_loop.trips) : BitVec 1 :=
  let c0_i32_6 : BitVec 32 := 0#32
  let c1_i32_8 : BitVec 32 := 1#32
  let arg14 : BitVec 32 := Scf.iv c0_i32_6 c1_i32_8 k0_t1
  let c1_i32_21 : BitVec 32 := 1#32
  let v72 : BitVec 1 := Scalar.cmpi .slt arg14 c1_i32_21
  let v73 : BitVec 32 := Scalar.extui v72
  let c0_i32_22 : BitVec 32 := 0#32
  let v74 : BitVec 1 := Scalar.cmpi .ne v73 c0_i32_22
  v74

def k0_off6 (i : grid0.Coords) (k0_t1 : Fin k0_t1_loop.trips) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let c2_i32_12 : BitVec 32 := 2#32
  let c0_i32_6 : BitVec 32 := 0#32
  let c1_i32_8 : BitVec 32 := 1#32
  let arg14 : BitVec 32 := Scf.iv c0_i32_6 c1_i32_8 k0_t1
  let v59 : BitVec 32 := Scalar.muli c2_i32_12 arg14
  let c0_i32_13 : BitVec 32 := 0#32
  let v60 : BitVec 32 := Scalar.addi v59 c0_i32_13
  let c16384_i32_14 : BitVec 32 := 16384#32
  let v61 : BitVec 32 := Scalar.muli v60 c16384_i32_14
  let v62 : BitVec 32 := Scalar.addi v3 v61
  let c32768_i32_36 : BitVec 32 := 32768#32
  let v91 : BitVec 32 := Scalar.addi v62 c32768_i32_36
  ![v91.toNat]
def k0_cond3 (k0_t1 : Fin k0_t1_loop.trips) : BitVec 1 :=
  let c0_i32_6 : BitVec 32 := 0#32
  let c1_i32_8 : BitVec 32 := 1#32
  let arg14 : BitVec 32 := Scf.iv c0_i32_6 c1_i32_8 k0_t1
  let c0_i32_26 : BitVec 32 := 0#32
  let v81 : BitVec 1 := Scalar.cmpi .sgt arg14 c0_i32_26
  let v82 : BitVec 32 := Scalar.extui v81
  let c0_i32_27 : BitVec 32 := 0#32
  let v83 : BitVec 1 := Scalar.cmpi .ne v82 c0_i32_27
  v83

def k0_off7 (i : grid0.Coords) (k0_t1 : Fin k0_t1_loop.trips) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let c2_i32_23 : BitVec 32 := 2#32
  let c0_i32_6 : BitVec 32 := 0#32
  let c1_i32_8 : BitVec 32 := 1#32
  let arg14 : BitVec 32 := Scf.iv c0_i32_6 c1_i32_8 k0_t1
  let v75 : BitVec 32 := Scalar.muli c2_i32_23 arg14
  let c1_i32_24 : BitVec 32 := 1#32
  let v76 : BitVec 32 := Scalar.addi v75 c1_i32_24
  let c16384_i32_25 : BitVec 32 := 16384#32
  let v77 : BitVec 32 := Scalar.muli v76 c16384_i32_25
  let v78 : BitVec 32 := Scalar.addi v3 v77
  let c32768_i32_36 : BitVec 32 := 32768#32
  let v91 : BitVec 32 := Scalar.subi v78 c32768_i32_36
  let c6291456_i32_37 : BitVec 32 := 6291456#32
  let v92 : BitVec 32 := Scalar.subi v91 c6291456_i32_37
  ![v92.toNat]
@[reducible] def k0_t3_loop : Scf.Loop 32 :=
  let c0_i32_28 : BitVec 32 := 0#32
  let c1024_i32_29 : BitVec 32 := 1024#32
  let v84 : BitVec 32 := Scalar.addi c0_i32_28 c1024_i32_29
  let c1_i32_30 : BitVec 32 := 1#32
  ⟨c0_i32_28, v84, c1_i32_30⟩
def k0_off8 (k0_t3 : Fin k0_t3_loop.trips) : Fin 1 → Nat :=
  let c0_i32_36 : BitVec 32 := 0#32
  let c0_i32_28 : BitVec 32 := 0#32
  let c1_i32_30 : BitVec 32 := 1#32
  let arg16 : BitVec 32 := Scf.iv c0_i32_28 c1_i32_30 k0_t3
  let c16_i32 : BitVec 32 := 16#32
  let v91 : BitVec 32 := Scalar.muli arg16 c16_i32
  let v92 : BitVec 32 := Scalar.addi c0_i32_36 v91
  let v93 : Index := Scalar.indexCast v92
  ![v93.toNat]
def k0_cond4 (k0_t1 : Fin k0_t1_loop.trips) : BitVec 1 :=
  let c0_i32_6 : BitVec 32 := 0#32
  let c1_i32_8 : BitVec 32 := 1#32
  let arg14 : BitVec 32 := Scf.iv c0_i32_6 c1_i32_8 k0_t1
  let c1_i32_33 : BitVec 32 := 1#32
  let v88 : BitVec 1 := Scalar.cmpi .slt arg14 c1_i32_33
  let v89 : BitVec 32 := Scalar.extui v88
  let c0_i32_34 : BitVec 32 := 0#32
  let v90 : BitVec 1 := Scalar.cmpi .ne v89 c0_i32_34
  v90

def k0_off9 (i : grid0.Coords) (k0_t1 : Fin k0_t1_loop.trips) : Fin 1 → Nat :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v3 : BitVec 32 := Scalar.addi c6291456_i32 v2
  let c2_i32_23 : BitVec 32 := 2#32
  let c0_i32_6 : BitVec 32 := 0#32
  let c1_i32_8 : BitVec 32 := 1#32
  let arg14 : BitVec 32 := Scf.iv c0_i32_6 c1_i32_8 k0_t1
  let v75 : BitVec 32 := Scalar.muli c2_i32_23 arg14
  let c1_i32_24 : BitVec 32 := 1#32
  let v76 : BitVec 32 := Scalar.addi v75 c1_i32_24
  let c16384_i32_25 : BitVec 32 := 16384#32
  let v77 : BitVec 32 := Scalar.muli v76 c16384_i32_25
  let v78 : BitVec 32 := Scalar.addi v3 v77
  let c32768_i32_36 : BitVec 32 := 32768#32
  let v91 : BitVec 32 := Scalar.addi v78 c32768_i32_36
  ![v91.toNat]
def k0_off10 (i : grid0.Coords) (c32768_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_10 : BitVec 32 := 65536#32
  let v51 : BitVec 32 := Scalar.muli v1 c65536_i32_10
  let v52 : BitVec 32 := Scalar.addi v51 c32768_i32
  ![v52.toNat]
abbrev grid1 : Pipeline.Grid := ⟨1, ![6], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1048576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1048576 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S9 : Shape := ⟨1, ![9]⟩
abbrev S10 : Shape := ⟨1, ![10]⟩
abbrev S_ : Shape := ⟨0, ![]⟩
abbrev S9x1 : Shape := ⟨2, ![9, 1]⟩
abbrev S1x9 : Shape := ⟨2, ![1, 9]⟩
abbrev S8388608x1 : Shape := ⟨2, ![8388608, 1]⟩
abbrev S8388608x9 : Shape := ⟨2, ![8388608, 9]⟩

abbrev nBuf : Space → Nat
  | .hbm => 30
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S9, .i32⟩
  | .hbm, ⟨2, _⟩ => ⟨S10, .i32⟩
  | .hbm, ⟨3, _⟩ => ⟨S_, .i32⟩
  | .hbm, ⟨4, _⟩ => ⟨S9, .i32⟩
  | .hbm, ⟨5, _⟩ => ⟨S9, .i1⟩
  | .hbm, ⟨6, _⟩ => ⟨S_, .i32⟩
  | .hbm, ⟨7, _⟩ => ⟨S9, .i32⟩
  | .hbm, ⟨8, _⟩ => ⟨S9, .i32⟩
  | .hbm, ⟨9, _⟩ => ⟨S9, .i32⟩
  | .hbm, ⟨10, _⟩ => ⟨S9x1, .i32⟩
  | .hbm, ⟨11, _⟩ => ⟨S9, .f32⟩
  | .hbm, ⟨12, _⟩ => ⟨S9, .f32⟩
  | .hbm, ⟨13, _⟩ => ⟨S1x9, .f32⟩
  | .hbm, ⟨14, _⟩ => ⟨S8388608x1, .f32⟩
  | .hbm, ⟨15, _⟩ => ⟨S8388608x9, .f32⟩
  | .hbm, ⟨16, _⟩ => ⟨S8388608x9, .f32⟩
  | .hbm, ⟨17, _⟩ => ⟨S8388608x9, .i1⟩
  | .hbm, ⟨18, _⟩ => ⟨S8388608x9, .i32⟩
  | .hbm, ⟨19, _⟩ => ⟨S_, .i32⟩
  | .hbm, ⟨20, _⟩ => ⟨S8388608, .i32⟩
  | .hbm, ⟨21, _⟩ => ⟨S_, .i32⟩
  | .hbm, ⟨22, _⟩ => ⟨S8388608, .i32⟩
  | .hbm, ⟨23, _⟩ => ⟨S8388608, .i1⟩
  | .hbm, ⟨24, _⟩ => ⟨S_, .i32⟩
  | .hbm, ⟨25, _⟩ => ⟨S8388608, .i32⟩
  | .hbm, ⟨26, _⟩ => ⟨S8388608, .i32⟩
  | .hbm, ⟨27, _⟩ => ⟨S8388608, .i32⟩
  | .hbm, ⟨28, _⟩ => ⟨S8388608x1, .i32⟩
  | .hbm, ⟨29, _⟩ => ⟨S8388608, .i32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_c_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Setup.lean ====
/-
  The program as the launch theorem for SparseCore kernels sees it, the resource algebra of the certificate (the
  handshakes' rounds, the staging pipeline's rounds, the transfers' counters), the value every element of the
  result has (`digit`), and what the one SparseCore call carries to its tiles and back (`P`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Digit

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are apart and unscoped, and no buffer is shared between tasks. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds; the staging cells' rounds; both beside the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds inside the machine's algebra. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP; infer_instance
abbrev EC : UEmb Counters (MT nD τ sig (HIx 1) (Elt F) ℕ UU ℕ) := countersEmb

/-! ## The value -/

/-- Lane `j` of the boundaries' vector. -/
abbrev lane (j : Fin 16) : S16.Idx := fun | 0 => j | ⟨_ + 1, h⟩ => absurd h (Nat.not_lt.2 (Nat.le_add_left _ _))

/-- The class of a value `x`, as both kernels compute it: the first class, replaced in turn by each later class whose
    boundary lies below `x`. -/
def digit [FloatOps F] (b : S16.Idx → F .f32) (x : F .f32) : BitVec 32 :=
  Scalar.select (FloatOps.cmpf .ogt x (b (lane 8))) 5#32
  (Scalar.select (FloatOps.cmpf .ogt x (b (lane 7))) 6#32
  (Scalar.select (FloatOps.cmpf .ogt x (b (lane 6))) 8#32
  (Scalar.select (FloatOps.cmpf .ogt x (b (lane 5))) 1#32
  (Scalar.select (FloatOps.cmpf .ogt x (b (lane 4))) 4#32
  (Scalar.select (FloatOps.cmpf .ogt x (b (lane 3))) 5#32
  (Scalar.select (FloatOps.cmpf .ogt x (b (lane 2))) 2#32
  (Scalar.select (FloatOps.cmpf .ogt x (b (lane 1))) 4#32
  (Scalar.select (FloatOps.cmpf .ogt x (b (lane 0))) 2#32 5#32))))))))

/-! ## The arrays -/

abbrev xLoc (d : Dev nD) : Loc nD τ sig := (SparseCore.T d).loc main_arg0
abbrev bLoc (d : Dev nD) : Loc nD τ sig := (SparseCore.T d).loc main_v10
abbrev oLoc (d : Dev nD) : Loc nD τ sig := (SparseCore.T d).loc main_v11

variable (X : (d : Dev nD) → Buf (Elt F) (xLoc d)) (B : (d : Dev nD) → Buf (Elt F) (bLoc d)) (O₀ : (d : Dev nD) → Buf (Elt F) (oLoc d))

/-- Element `6291456 + j` of the input: the one behind element `j` of the SparseCores' part. -/
abbrev shift (j : S2097152.Idx) : S8388608.Idx :=
  fun | 0 => ⟨6291456 + (j 0).val, by have h : (j 0).val < 2097152 := (j 0).isLt; show 6291456 + (j 0).val < 8388608; omega⟩ | ⟨_ + 1, h⟩ => absurd h (Nat.not_lt.2 (Nat.le_add_left _ _))

/-- The SparseCores' part of the result: the classes of the input's last quarter. -/
def outF [FloatOps F] (d : Dev nD) : Buf (Elt F) (oLoc d) :=
  show S2097152.Idx → BitVec 32 from fun j => digit (show S16.Idx → F .f32 from B d) ((show S8388608.Idx → F .f32 from X d) (shift j))

/-! ## The blocks of the SparseCores' part -/

/-- Tile `i` of core `c` is worker `2 i + c`; its block is that one of thirty-two. -/
abbrev wid (c : Fin 2) (i : Fin 16) : Fin 32 := ⟨2 * i.val + c.val, by omega⟩
theorem odiv : 32 ∣ S2097152.size 0 := ⟨65536, rfl⟩
abbrev oblk (c : Fin 2) (i : Fin 16) : Rect S2097152 := Rect.part (s := S2097152) (a₀ := 0) odiv (wid c i)
abbrev oSet (c : Fin 2) (i : Fin 16) : Finset S2097152.Idx := (oblk c i).set
/-- A core's blocks together. -/
abbrev oCore (c : Fin 2) : Finset S2097152.Idx := Finset.univ.biUnion (oSet c)

/-- The shares of the input and of the boundaries: each core's, and each tile's of its core's. -/
abbrev cq (c : Fin 2) : PosShare TreeShare := Transfers.shareTok fullShare 2 c
abbrev tq (c : Fin 2) (i : Fin 16) : PosShare TreeShare := Transfers.shareTok (cq c) 16 i

abbrev xPts (d : Dev nD) (q : PosShare TreeShare) : sProp 𝕄 := xLoc d ↦{q} X d
abbrev bPts (d : Dev nD) (q : PosShare TreeShare) : sProp 𝕄 := bLoc d ↦{q} B d
abbrev oPts (d : Dev nD) (I : Finset (Idx (oLoc d))) (f : Buf (Elt F) (oLoc d)) : sProp 𝕄 := oLoc d ↦[I]{fullShare} f

variable [FloatOps F]

/-- The one call: each core takes a share of the input and of the boundaries and its blocks of the result, each tile a
    share of those shares and its block; the blocks come back holding the classes. -/
def P : (K (F := F)).Pay (nD := nD) (Val := Elt F) (Name := ℕ) (U := UU) where
  st := fun q d c => match q with | 0 => iprop(xPts X d (cq (Fin.cast nCore_zero c)) ∗ bPts B d (cq (Fin.cast nCore_zero c)) ∗ oPts d (oCore (Fin.cast nCore_zero c)) (O₀ d))
  dn := fun q d c => match q with | 0 => iprop(xPts X d (cq (Fin.cast nCore_zero c)) ∗ bPts B d (cq (Fin.cast nCore_zero c)) ∗ oPts d (oCore (Fin.cast nCore_zero c)) (outF X B d))
  go := fun q d c i => match q with
    | 0 => iprop(xPts X d (tq (Fin.cast nCore_zero c) (Fin.cast nSub_zero i)) ∗ bPts B d (tq (Fin.cast nCore_zero c) (Fin.cast nSub_zero i)) ∗ oPts d (oSet (Fin.cast nCore_zero c) (Fin.cast nSub_zero i)) (O₀ d))
  td := fun q d c i => match q with
    | 0 => iprop(xPts X d (tq (Fin.cast nCore_zero c) (Fin.cast nSub_zero i)) ∗ bPts B d (tq (Fin.cast nCore_zero c) (Fin.cast nSub_zero i)) ∗ oPts d (oSet (Fin.cast nCore_zero c) (Fin.cast nSub_zero i)) (outF X B d))
  x := fun _ _ => iprop(emp)

instance P_storable : (P (F := F) X B O₀).IsStorable where
  st q d c := match q with
    | 0 => (inferInstance : BI.Storable (upEmb : UEmb _ 𝕄) iprop(xPts X d (cq (Fin.cast nCore_zero c)) ∗ bPts B d (cq (Fin.cast nCore_zero c)) ∗ oPts d (oCore (Fin.cast nCore_zero c)) (O₀ d)))
  dn q d c := match q with
    | 0 => (inferInstance : BI.Storable (upEmb : UEmb _ 𝕄) iprop(xPts X d (cq (Fin.cast nCore_zero c)) ∗ bPts B d (cq (Fin.cast nCore_zero c)) ∗ oPts d (oCore (Fin.cast nCore_zero c)) (outF X B d)))
  go q d c i := match q with
    | 0 => (inferInstance : BI.Storable (upEmb : UEmb _ 𝕄) iprop(xPts X d (tq (Fin.cast nCore_zero c) (Fin.cast nSub_zero i)) ∗ bPts B d (tq (Fin.cast nCore_zero c) (Fin.cast nSub_zero i)) ∗ oPts d (oSet (Fin.cast nCore_zero c) (Fin.cast nSub_zero i)) (O₀ d)))
  td q d c i := match q with
    | 0 => (inferInstance : BI.Storable (upEmb : UEmb _ 𝕄) iprop(xPts X d (tq (Fin.cast nCore_zero c) (Fin.cast nSub_zero i)) ∗ bPts B d (tq (Fin.cast nCore_zero c) (Fin.cast nSub_zero i)) ∗ oPts d (oSet (Fin.cast nCore_zero c) (Fin.cast nSub_zero i)) (outF X B d)))

end Cert.Proof.Digit

end
-- ==== Proof.Inner.lean ====
/-
  The two inner loops of a tile: sixteen values at a time, a chunk of the input becomes the classes of its values.
-/
module

public import proofs.«01_k».proof.Proof.Setup

@[expose] public section

noncomputable section

namespace Cert.Proof.Digit

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "xV" => (Memref.whole Cert.KernelIdeal.main_arg0_scv : Memref Cert.KernelIdeal.sig Kind.scVector Space.hbm Cert.KernelIdeal.S8388608 EltTy.f32)
local notation "bV" => (Memref.whole Cert.KernelIdeal.main_v10_scv : Memref Cert.KernelIdeal.sig Kind.scVector Space.hbm Cert.KernelIdeal.S16 EltTy.f32)
local notation "oV" => (Memref.whole Cert.KernelIdeal.main_v11_scv : Memref Cert.KernelIdeal.sig Kind.scVector Space.hbm Cert.KernelIdeal.S2097152 EltTy.i32)
local notation "b5" => (Memref.whole Cert.KernelIdeal.cc0_scratch0 : Memref Cert.KernelIdeal.sig Kind.scVector Space.vmem Cert.KernelIdeal.S16 EltTy.f32)
local notation "i6" => (Memref.whole Cert.KernelIdeal.cc0_scratch1 : Memref Cert.KernelIdeal.sig Kind.scVector Space.vmem Cert.KernelIdeal.S16384 EltTy.f32)
local notation "i7" => (Memref.whole Cert.KernelIdeal.cc0_scratch2 : Memref Cert.KernelIdeal.sig Kind.scVector Space.vmem Cert.KernelIdeal.S16384 EltTy.f32)
local notation "o8" => (Memref.whole Cert.KernelIdeal.cc0_scratch3 : Memref Cert.KernelIdeal.sig Kind.scVector Space.vmem Cert.KernelIdeal.S16384 EltTy.i32)
local notation "o9" => (Memref.whole Cert.KernelIdeal.cc0_scratch4 : Memref Cert.KernelIdeal.sig Kind.scVector Space.vmem Cert.KernelIdeal.S16384 EltTy.i32)

/-! ## The payloads -/

/-- A cast to the same shape changes nothing. -/
theorem shapeCast_same {s : Shape} {α : Type} (x : s.Idx → α) (h : s.ShapeCasts s) : shapeCast s x h = x := by
  funext j
  unfold shapeCast
  congr 1
  exact Shape.reshapeEquiv_self h j

/-- Boundary `j` in every lane, as the kernel takes it out of the boundaries' vector. -/
theorem lane_splat (v : S16.Idx → F .f32) (j : Fin 16) (hs : S16.Slices ![j.val] S1) (hp : ∀ a, (![0] : Fin 1 → Nat) a < S1.size a) (i : S16.Idx) :
    broadcast S16 (extractAt ![0] (extractStridedSlice S1 ![j.val] (shapeCast S16 v shapeCasts_S16_S16) hs) hp) i = v (lane j) := by
  rw [shapeCast_same]
  unfold broadcast extractAt extractStridedSlice
  congr 1
  funext a
  match a with
  | 0 => exact Fin.ext rfl

variable [FloatOps F]

/-- What a store of the first inner loop writes: the class of each value it loaded. -/
theorem pay7_apply (v x : S16.Idx → F .f32) (i : S16.Idx) :
    k0_pay7 (k0_pay10 v) (k0_pay11 v) (k0_pay12 v) (k0_pay13 v) (k0_pay14 v) (k0_pay15 v) (k0_pay16 v) (k0_pay17 v) (k0_pay18 v)
      (k0_pay19 : IVec S16 32) k0_pay20 k0_pay21 k0_pay22 (k0_pay1 5#32) k0_pay2 k0_pay3 k0_pay4 k0_pay5 k0_pay6 x i = digit v (x i) := by
  have h0 := lane_splat v 0 slices_S16_o0_S1 inpos_S1_p0 i
  have h1 := lane_splat v 1 slices_S16_o1_S1 inpos_S1_p0 i
  have h2 := lane_splat v 2 slices_S16_o2_S1 inpos_S1_p0 i
  have h3 := lane_splat v 3 slices_S16_o3_S1 inpos_S1_p0 i
  have h4 := lane_splat v 4 slices_S16_o4_S1 inpos_S1_p0 i
  have h5 := lane_splat v 5 slices_S16_o5_S1 inpos_S1_p0 i
  have h6 := lane_splat v 6 slices_S16_o6_S1 inpos_S1_p0 i
  have h7 := lane_splat v 7 slices_S16_o7_S1 inpos_S1_p0 i
  have h8 := lane_splat v 8 slices_S16_o8_S1 inpos_S1_p0 i
  unfold k0_pay7 digit
  simp only [shapeCast_same]
  rw [← h0, ← h1, ← h2, ← h3, ← h4, ← h5, ← h6, ← h7, ← h8]
  rfl

/-- The second loop's stores write the same. -/
theorem pay8_apply (v x : S16.Idx → F .f32) (i : S16.Idx) :
    k0_pay8 (k0_pay10 v) (k0_pay11 v) (k0_pay12 v) (k0_pay13 v) (k0_pay14 v) (k0_pay15 v) (k0_pay16 v) (k0_pay17 v) (k0_pay18 v)
      (k0_pay19 : IVec S16 32) k0_pay20 k0_pay21 k0_pay22 (k0_pay1 5#32) k0_pay2 k0_pay3 k0_pay4 k0_pay5 k0_pay6 x i = digit v (x i) :=
  pay7_apply v x i

/-! ## The tile -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

variable (d : Dev nD) (L : grid0.Coords)

/-! ## The first loop -/

/-- Before trip `k`: the chunk as it is, the classes of its first `16 k` values in place. -/
def inv8 (v : S16.Idx → F .f32) (fx : S16384.Idx → F .f32) (k : Nat) (_ : Unit) : sProp 𝕄 :=
  iprop(((i6).view.loc (VT d L) ↦[(i6).view.set]{fullShare} (show Buf (Elt F) ((i6).view.loc (VT d L)) from fx))
    ∗ ∃ f : Buf (Elt F) ((o8).view.loc (VT d L)), ⌜∀ y : S16384.Idx, (y 0).val < 16 * k → (o8).view.read (Elt F) f y = digit v (fx y)⌝
        ∗ ((o8).view.loc (VT d L) ↦[(o8).view.set]{fullShare} f))

/-- One store extends the classes in place by sixteen. -/
theorem stored8 (v : S16.Idx → F .f32) (fx : S16384.Idx → F .f32) (k : Fin k0_t2_loop.trips)
    (f : (o8).view.ty.Contents (Elt F)) (hf : ∀ y : S16384.Idx, (y 0).val < 16 * k.val → (o8).view.read (Elt F) f y = digit v (fx y))
    (y : S16384.Idx) (hy : (y 0).val < 16 * (k.val + 1)) :
    (o8).view.read (Elt F) ((o8).view.writes (Elt F) f [⟨Rect.unit (s := S16384) (k0_off4 k) S16.size (k0_off4_inb k),
      k0_pay7 (k0_pay10 v) (k0_pay11 v) (k0_pay12 v) (k0_pay13 v) (k0_pay14 v) (k0_pay15 v) (k0_pay16 v) (k0_pay17 v) (k0_pay18 v)
        (k0_pay19 : IVec S16 32) k0_pay20 k0_pay21 k0_pay22 (k0_pay1 5#32) k0_pay2 k0_pay3 k0_pay4 k0_pay5 k0_pay6
        (View.readAt (Elt F) (i6).view (Rect.unit (s := S16384) (k0_off4 k) S16.size (k0_off4_inb k)).toLoadRect fx)⟩]) y = digit v (fx y) := by
  have hoff : k0_off4 k 0 = 16 * k.val := by rw [k0_off4_eq]; rfl
  by_cases h : (y 0).val < 16 * k.val
  · rw [View.read_writes_cons_miss_of_axis (o8).view f _ _ y 0 (16 * k.val) 16 hoff rfl rfl (.inl h)]
    exact hf y h
  · have hx : ∀ a : Fin 1, (y a).val = k0_off4 k a + 1 * ((lane ⟨(y 0).val - 16 * k.val, by omega⟩ : S16.Idx) a).val := by
      intro a
      match a with
      | 0 => rw [hoff]; show (y 0).val = 16 * k.val + 1 * ((y 0).val - 16 * k.val); omega
    rw [View.read_writes_cons_hit_of_coords (o8).view f _ _ _ (lane ⟨(y 0).val - 16 * k.val, by omega⟩) y hx, pay7_apply]
    congr 1
    show fx _ = fx y
    congr 1
    exact Rect.emb_eq_of_coords (Rect.unit (s := S16384) (k0_off4 k) S16.size (k0_off4_inb k)) _ y hx

theorem step8 (v : S16.Idx → F .f32) (fx : S16384.Idx → F .f32) (v3 : BitVec 32) (k0_t1 : Fin k0_t1_loop.trips) (k : Fin k0_t2_loop.trips) (u : Unit) :
    inv8 d L v fx k.val u
      ⊢ wp frame (wpE (defs₀ (F := F)) 𝒱₀ (VT d L) none) Set.univ
          (k0_t2_body L xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0 v3
            (k0_pay10 v) (k0_pay11 v) (k0_pay12 v) (k0_pay13 v) (k0_pay14 v) (k0_pay15 v) (k0_pay16 v) (k0_pay17 v) (k0_pay18 v)
            (k0_pay19 : IVec S16 32) k0_pay20 k0_pay21 k0_pay22 (k0_pay1 5#32) k0_pay2 k0_pay3 k0_pay4 k0_pay5 k0_pay6 0#32 1#32 k0_t1 k u)
          (inv8 d L v fx (k.val + 1)) := by
  unfold k0_t2_body inv8
  iintro ⟨Hx, %f, %hf, Ho⟩
  sl_exec
  sl_step
  isplitl [Hx]; · iexact Hx
  iexists _
  isplitr
  rotate_left
  · iexact Ho
  ipureintro
  intro y hy
  exact stored8 v fx k f hf y hy

/-! ## The second loop -/

/-- Before trip `k`: the chunk as it is, the classes of its first `16 k` values in place. -/
def inv9 (v : S16.Idx → F .f32) (fx : S16384.Idx → F .f32) (k : Nat) (_ : Unit) : sProp 𝕄 :=
  iprop(((i7).view.loc (VT d L) ↦[(i7).view.set]{fullShare} (show Buf (Elt F) ((i7).view.loc (VT d L)) from fx))
    ∗ ∃ f : Buf (Elt F) ((o9).view.loc (VT d L)), ⌜∀ y : S16384.Idx, (y 0).val < 16 * k → (o9).view.read (Elt F) f y = digit v (fx y)⌝
        ∗ ((o9).view.loc (VT d L) ↦[(o9).view.set]{fullShare} f))

/-- One store extends the classes in place by sixteen. -/
theorem stored9 (v : S16.Idx → F .f32) (fx : S16384.Idx → F .f32) (k : Fin k0_t3_loop.trips)
    (f : (o9).view.ty.Contents (Elt F)) (hf : ∀ y : S16384.Idx, (y 0).val < 16 * k.val → (o9).view.read (Elt F) f y = digit v (fx y))
    (y : S16384.Idx) (hy : (y 0).val < 16 * (k.val + 1)) :
    (o9).view.read (Elt F) ((o9).view.writes (Elt F) f [⟨Rect.unit (s := S16384) (k0_off8 k) S16.size (k0_off8_inb k),
      k0_pay8 (k0_pay10 v) (k0_pay11 v) (k0_pay12 v) (k0_pay13 v) (k0_pay14 v) (k0_pay15 v) (k0_pay16 v) (k0_pay17 v) (k0_pay18 v)
        (k0_pay19 : IVec S16 32) k0_pay20 k0_pay21 k0_pay22 (k0_pay1 5#32) k0_pay2 k0_pay3 k0_pay4 k0_pay5 k0_pay6
        (View.readAt (Elt F) (i7).view (Rect.unit (s := S16384) (k0_off8 k) S16.size (k0_off8_inb k)).toLoadRect fx)⟩]) y = digit v (fx y) := by
  have hoff : k0_off8 k 0 = 16 * k.val := by rw [k0_off8_eq]; rfl
  by_cases h : (y 0).val < 16 * k.val
  · rw [View.read_writes_cons_miss_of_axis (o9).view f _ _ y 0 (16 * k.val) 16 hoff rfl rfl (.inl h)]
    exact hf y h
  · have hx : ∀ a : Fin 1, (y a).val = k0_off8 k a + 1 * ((lane ⟨(y 0).val - 16 * k.val, by omega⟩ : S16.Idx) a).val := by
      intro a
      match a with
      | 0 => rw [hoff]; show (y 0).val = 16 * k.val + 1 * ((y 0).val - 16 * k.val); omega
    rw [View.read_writes_cons_hit_of_coords (o9).view f _ _ _ (lane ⟨(y 0).val - 16 * k.val, by omega⟩) y hx, pay8_apply]
    congr 1
    show fx _ = fx y
    congr 1
    exact Rect.emb_eq_of_coords (Rect.unit (s := S16384) (k0_off8 k) S16.size (k0_off8_inb k)) _ y hx

theorem step9 (v : S16.Idx → F .f32) (fx : S16384.Idx → F .f32) (v3 : BitVec 32) (k0_t1 : Fin k0_t1_loop.trips) (k : Fin k0_t3_loop.trips) (u : Unit) :
    inv9 d L v fx k.val u
      ⊢ wp frame (wpE (defs₀ (F := F)) 𝒱₀ (VT d L) none) Set.univ
          (k0_t3_body L xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0 v3
            (k0_pay10 v) (k0_pay11 v) (k0_pay12 v) (k0_pay13 v) (k0_pay14 v) (k0_pay15 v) (k0_pay16 v) (k0_pay17 v) (k0_pay18 v)
            (k0_pay19 : IVec S16 32) k0_pay20 k0_pay21 k0_pay22 (k0_pay1 5#32) k0_pay2 k0_pay3 k0_pay4 k0_pay5 k0_pay6 0#32 1#32 k0_t1 k u)
          (inv9 d L v fx (k.val + 1)) := by
  unfold k0_t3_body inv9
  iintro ⟨Hx, %f, %hf, Ho⟩
  sl_exec
  sl_step
  isplitl [Hx]; · iexact Hx
  iexists _
  isplitr
  rotate_left
  · iexact Ho
  ipureintro
  intro y hy
  exact stored9 v fx k f hf y hy

end Cert.Proof.Digit

end
-- ==== Proof.Tile.lean ====
/-
  One tile's task: four chunks of the input through two buffers each way, transfers in flight across the trips of the
  outer loop; the tile's block of the result ends holding the classes.
-/
module

public import proofs.«01_k».proof.Proof.Inner

@[expose] public section

noncomputable section

namespace Cert.Proof.Digit

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "xV" => (Memref.whole Cert.KernelIdeal.main_arg0_scv : Memref Cert.KernelIdeal.sig Kind.scVector Space.hbm Cert.KernelIdeal.S8388608 EltTy.f32)
local notation "bV" => (Memref.whole Cert.KernelIdeal.main_v10_scv : Memref Cert.KernelIdeal.sig Kind.scVector Space.hbm Cert.KernelIdeal.S16 EltTy.f32)
local notation "oV" => (Memref.whole Cert.KernelIdeal.main_v11_scv : Memref Cert.KernelIdeal.sig Kind.scVector Space.hbm Cert.KernelIdeal.S2097152 EltTy.i32)
local notation "b5" => (Memref.whole Cert.KernelIdeal.cc0_scratch0 : Memref Cert.KernelIdeal.sig Kind.scVector Space.vmem Cert.KernelIdeal.S16 EltTy.f32)
local notation "i6" => (Memref.whole Cert.KernelIdeal.cc0_scratch1 : Memref Cert.KernelIdeal.sig Kind.scVector Space.vmem Cert.KernelIdeal.S16384 EltTy.f32)
local notation "i7" => (Memref.whole Cert.KernelIdeal.cc0_scratch2 : Memref Cert.KernelIdeal.sig Kind.scVector Space.vmem Cert.KernelIdeal.S16384 EltTy.f32)
local notation "o8" => (Memref.whole Cert.KernelIdeal.cc0_scratch3 : Memref Cert.KernelIdeal.sig Kind.scVector Space.vmem Cert.KernelIdeal.S16384 EltTy.i32)
local notation "o9" => (Memref.whole Cert.KernelIdeal.cc0_scratch4 : Memref Cert.KernelIdeal.sig Kind.scVector Space.vmem Cert.KernelIdeal.S16384 EltTy.i32)

variable [FloatOps F]
variable (X : (d : Dev nD) → Buf (Elt F) (xLoc d)) (B : (d : Dev nD) → Buf (Elt F) (bLoc d))
variable (d : Dev nD) (L : grid0.Coords)

/-! ## The chunks, as the body slices them -/

abbrev t0 : Fin k0_t1_loop.trips := ⟨0, by decide⟩
abbrev t1 : Fin k0_t1_loop.trips := ⟨1, by decide⟩

theorem c2_t0 : k0_cond2 t0 = 1#1 := by decide
theorem c4_t0 : k0_cond4 t0 = 1#1 := by decide
theorem c1_t0 : ¬ k0_cond1 t0 = 1#1 := by decide
theorem c3_t0 : ¬ k0_cond3 t0 = 1#1 := by decide
theorem c2_t1 : ¬ k0_cond2 t1 = 1#1 := by decide
theorem c4_t1 : ¬ k0_cond4 t1 = 1#1 := by decide
theorem c1_t1 : k0_cond1 t1 = 1#1 := by decide
theorem c3_t1 : k0_cond3 t1 = 1#1 := by decide

abbrev xc0 : Memref sig .scVector .hbm S16384 .f32 := (xV).slice (Rect.unit (s := S8388608) (k0_off1 L 0#32) S16384.size (k0_off1_inb L 0)) (fun _ => rfl)
abbrev xc1 : Memref sig .scVector .hbm S16384 .f32 := (xV).slice (Rect.unit (s := S8388608) (k0_off1 L 16384#32) S16384.size (k0_off1_inb L 1)) (fun _ => rfl)
abbrev xc2 : Memref sig .scVector .hbm S16384 .f32 := (xV).slice (Rect.unit (s := S8388608) (k0_off6 L t0) S16384.size (k0_off6_inb L t0 c2_t0)) (fun _ => rfl)
abbrev xc3 : Memref sig .scVector .hbm S16384 .f32 := (xV).slice (Rect.unit (s := S8388608) (k0_off9 L t0) S16384.size (k0_off9_inb L t0 c4_t0)) (fun _ => rfl)
abbrev oc0 : Memref sig .scVector .hbm S16384 .i32 := (oV).slice (Rect.unit (s := S2097152) (k0_off5 L t0 0#32) S16384.size (k0_off5_inb L t0 0)) (fun _ => rfl)
abbrev oc1 : Memref sig .scVector .hbm S16384 .i32 := (oV).slice (Rect.unit (s := S2097152) (k0_off5 L t0 1#32) S16384.size (k0_off5_inb L t0 1)) (fun _ => rfl)
abbrev oc2 : Memref sig .scVector .hbm S16384 .i32 := (oV).slice (Rect.unit (s := S2097152) (k0_off5 L t1 0#32) S16384.size (k0_off5_inb L t1 0)) (fun _ => rfl)
abbrev oc3 : Memref sig .scVector .hbm S16384 .i32 := (oV).slice (Rect.unit (s := S2097152) (k0_off5 L t1 1#32) S16384.size (k0_off5_inb L t1 1)) (fun _ => rfl)

abbrev xP (M : Memref sig .scVector .hbm S16384 .f32) (q : PosShare TreeShare) (f : Buf (Elt F) (M.view.loc (VT d L))) : sProp 𝕄 := M.view.loc (VT d L) ↦[M.view.set]{q} f
abbrev oP (M : Memref sig .scVector .hbm S16384 .i32) (f : Buf (Elt F) (M.view.loc (VT d L))) : sProp 𝕄 := M.view.loc (VT d L) ↦[M.view.set]{fullShare} f
abbrev inP (M : Memref sig .scVector .vmem S16384 .f32) (f : Buf (Elt F) (M.view.loc (VT d L))) : sProp 𝕄 := M.view.loc (VT d L) ↦[M.view.set]{fullShare} f
abbrev ouP (M : Memref sig .scVector .vmem S16384 .i32) (f : Buf (Elt F) (M.view.loc (VT d L))) : sProp 𝕄 := M.view.loc (VT d L) ↦[M.view.set]{fullShare} f
abbrev bP (f : Buf (Elt F) ((b5).view.loc (VT d L))) : sProp 𝕄 := (b5).view.loc (VT d L) ↦[(b5).view.set]{fullShare} f

/-- The boundaries in HBM, at a share. -/
abbrev vP (q : PosShare TreeShare) (f : Buf (Elt F) (bLoc d)) : sProp 𝕄 := (bV).view.loc (VT d L) ↦[(bV).view.set]{q} f

/-- What the tile owes, its waits so far recorded beyond `W` at no call of their own. -/
abbrev owing (O : CellTallies nD τ sig (HIx 1)) (W : Waits sig (HIx 1)) : sProp 𝕄 :=
  iprop(∃ W' : Waits sig (HIx 1), ⌜∀ p ∈ W', p ∈ W ∨ p.2 = default⌝ ∗ owes (VT d L) O W')

theorem ins_ok {W W' : Waits sig (HIx 1)} {sm : SemLoc sig} (h : ∀ p ∈ W', p ∈ W ∨ p.2 = default) :
    ∀ p ∈ insert (sm, (default : HIx 1)) W', p ∈ W ∨ p.2 = default := by
  intro p hp
  rcases Finset.mem_insert.mp hp with rfl | hp
  · exact .inr rfl
  · exact h p hp

/-- A fetch in flight on the first input buffer, of the chunk `f`, borrowing `R`. -/
abbrev FI6 (f : S16384.Idx → F .f32) (R : sProp 𝕄) : sProp 𝕄 :=
  Transfers.Flight EC (VT d L) (SemLoc.dma cc0_scratch5.sem) default 524288 iprop(inP d L (i6) f ∗ R)
/-- The same on the second. -/
abbrev FI7 (f : S16384.Idx → F .f32) (R : sProp 𝕄) : sProp 𝕄 :=
  Transfers.Flight EC (VT d L) (SemLoc.dma cc0_scratch6.sem) default 524288 iprop(inP d L (i7) f ∗ R)
/-- A write-back in flight out of the first output buffer, delivering `R`. -/
abbrev FO8 (f : Buf (Elt F) ((o8).view.loc (VT d L))) (R : sProp 𝕄) : sProp 𝕄 :=
  Transfers.Flight EC (VT d L) (SemLoc.dma cc0_scratch7.sem) default 524288 iprop(R ∗ ouP d L (o8) f)
/-- The same out of the second. -/
abbrev FO9 (f : Buf (Elt F) ((o9).view.loc (VT d L))) (R : sProp 𝕄) : sProp 𝕄 :=
  Transfers.Flight EC (VT d L) (SemLoc.dma cc0_scratch8.sem) default 524288 iprop(R ∗ ouP d L (o9) f)

/-- The chunks of the input. -/
abbrev ck0 : S16384.Idx → F .f32 := (xc0 L).view.read (Elt F) (X d)
abbrev ck1 : S16384.Idx → F .f32 := (xc1 L).view.read (Elt F) (X d)
abbrev ck2 : S16384.Idx → F .f32 := (xc2 L).view.read (Elt F) (X d)
abbrev ck3 : S16384.Idx → F .f32 := (xc3 L).view.read (Elt F) (X d)

/-- Before the first pair of chunks: both fetches in flight. -/
def I0 (q : PosShare TreeShare) (O : CellTallies nD τ sig (HIx 1)) (W : Waits sig (HIx 1)) (fo : Buf (Elt F) (oLoc d)) : sProp 𝕄 :=
  iprop(FI6 d L (ck0 X d L) (xP d L (xc0 L) q (X d)) ∗ FI7 d L (ck1 X d L) (xP d L (xc1 L) q (X d))
    ∗ xP d L (xc2 L) q (X d) ∗ xP d L (xc3 L) q (X d)
    ∗ oP d L (oc0 L) fo ∗ oP d L (oc1 L) fo ∗ oP d L (oc2 L) fo ∗ oP d L (oc3 L) fo
    ∗ (∃ f, ouP d L (o8) f) ∗ (∃ f, ouP d L (o9) f)
    ∗ semVal (VT d L, SemLoc.dma cc0_scratch7.sem) 0 ∗ semVal (VT d L, SemLoc.dma cc0_scratch8.sem) 0
    ∗ owing d L O W)

/-- Before the second: its fetches in flight, and the first pair's write-backs. -/
def I1 (q : PosShare TreeShare) (O : CellTallies nD τ sig (HIx 1)) (W : Waits sig (HIx 1)) (fo : Buf (Elt F) (oLoc d)) : sProp 𝕄 :=
  iprop(FI6 d L (ck2 X d L) (xP d L (xc2 L) q (X d)) ∗ FI7 d L (ck3 X d L) (xP d L (xc3 L) q (X d))
    ∗ xP d L (xc0 L) q (X d) ∗ xP d L (xc1 L) q (X d)
    ∗ (∃ f, FO8 d L f (oP d L (oc0 L) (outF X B d))) ∗ (∃ f, FO9 d L f (oP d L (oc1 L) (outF X B d)))
    ∗ oP d L (oc2 L) fo ∗ oP d L (oc3 L) fo
    ∗ owing d L O W)

/-- After it: its write-backs in flight. -/
def I2 (q : PosShare TreeShare) (O : CellTallies nD τ sig (HIx 1)) (W : Waits sig (HIx 1)) : sProp 𝕄 :=
  iprop(xP d L (xc0 L) q (X d) ∗ xP d L (xc1 L) q (X d) ∗ xP d L (xc2 L) q (X d) ∗ xP d L (xc3 L) q (X d)
    ∗ oP d L (oc0 L) (outF X B d) ∗ oP d L (oc1 L) (outF X B d)
    ∗ (∃ f, FO8 d L f (oP d L (oc2 L) (outF X B d))) ∗ (∃ f, FO9 d L f (oP d L (oc3 L) (outF X B d)))
    ∗ (∃ f, inP d L (i6) f) ∗ (∃ f, inP d L (i7) f)
    ∗ semVal (VT d L, SemLoc.dma cc0_scratch5.sem) 0 ∗ semVal (VT d L, SemLoc.dma cc0_scratch6.sem) 0
    ∗ owing d L O W)

/-- A buffer written whole holds what was written. -/
theorem writes_whole_in6 (g : Buf (Elt F) ((i6).view.loc (VT d L))) (w : S16384.Idx → F .f32) :
    (i6).view.writes (Elt F) g [⟨Rect.whole S16384, w⟩] = w := by
  have h := View.read_writes_whole (i6).view g w
  have e := View.read_whole (Val := Elt F) cc0_scratch1 ((i6).view.writes (Elt F) g [⟨Rect.whole S16384, w⟩])
  exact e.symm.trans h

theorem writes_whole_in7 (g : Buf (Elt F) ((i7).view.loc (VT d L))) (w : S16384.Idx → F .f32) :
    (i7).view.writes (Elt F) g [⟨Rect.whole S16384, w⟩] = w := by
  have h := View.read_writes_whole (i7).view g w
  have e := View.read_whole (Val := Elt F) cc0_scratch2 ((i7).view.writes (Elt F) g [⟨Rect.whole S16384, w⟩])
  exact e.symm.trans h

theorem FI6_of (g : Buf (Elt F) ((i6).view.loc (VT d L))) (w : S16384.Idx → F .f32) (R : sProp 𝕄) :
    Transfers.Flight EC (VT d L) (SemLoc.dma cc0_scratch5.sem) default 524288
        iprop(inP d L (i6) ((i6).view.writes (Elt F) g [⟨Rect.whole S16384, w⟩]) ∗ R) ⊢ FI6 d L w R := by
  rw [writes_whole_in6 d L g w]

theorem FI7_of (g : Buf (Elt F) ((i7).view.loc (VT d L))) (w : S16384.Idx → F .f32) (R : sProp 𝕄) :
    Transfers.Flight EC (VT d L) (SemLoc.dma cc0_scratch6.sem) default 524288
        iprop(inP d L (i7) ((i7).view.writes (Elt F) g [⟨Rect.whole S16384, w⟩]) ∗ R) ⊢ FI7 d L w R := by
  rw [writes_whole_in7 d L g w]

/-- A chunk of the result written with the classes of the chunk of the input that lies behind it. -/
theorem out_chunk {ox oo : Fin 1 → ℕ} (hx : ∀ a, ox a + S16384.size a ≤ S8388608.size a) (ho : ∀ a, oo a + S16384.size a ≤ S2097152.size a)
    (h : ox 0 = 6291456 + oo 0) (fo : Buf (Elt F) (oLoc d)) (w : S16384.Idx → BitVec 32)
    (hw : ∀ y, w y = digit (B d) (((xV).slice (Rect.unit (s := S8388608) ox S16384.size hx) (fun _ => rfl)).view.read (Elt F) (X d) y)) :
    oP d L ((oV).slice (Rect.unit (s := S2097152) oo S16384.size ho) (fun _ => rfl))
        (((oV).slice (Rect.unit (s := S2097152) oo S16384.size ho) (fun _ => rfl)).view.writes (Elt F) fo [⟨Rect.whole S16384, w⟩])
      = oP d L ((oV).slice (Rect.unit (s := S2097152) oo S16384.size ho) (fun _ => rfl)) (outF X B d) := by
  refine pointsTo_congr fun i hi => ?_
  obtain ⟨y, -, rfl⟩ := Finset.mem_map.mp hi
  have e := congrFun (View.read_writes_whole ((oV).slice (Rect.unit (s := S2097152) oo S16384.size ho) (fun _ => rfl)).view fo w) y
  rw [View.read_apply, hw y, View.read_apply] at e
  refine ((cast_eq _ _).symm.trans e).trans ?_
  have hs : (((xV).slice (Rect.unit (s := S8388608) ox S16384.size hx) (fun _ => rfl)).view.emb y : S8388608.Idx)
      = shift (((oV).slice (Rect.unit (s := S2097152) oo S16384.size ho) (fun _ => rfl)).view.emb y) := by
    funext a
    apply Fin.ext
    match a with
    | 0 =>
      show ox 0 + 1 * (y 0).val = 6291456 + (oo 0 + 1 * (y 0).val)
      omega
  unfold outF
  exact congrArg (fun z => digit (B d) ((show S8388608.Idx → F .f32 from X d) z)) hs

theorem FO8_of {P R : sProp 𝕄} (h : P = R) (f : Buf (Elt F) ((o8).view.loc (VT d L))) :
    Transfers.Flight EC (VT d L) (SemLoc.dma cc0_scratch7.sem) default 524288 iprop(P ∗ ouP d L (o8) f) ⊢ FO8 d L f R := by
  subst h
  exact BI.Entails.refl _

theorem FO9_of {P R : sProp 𝕄} (h : P = R) (f : Buf (Elt F) ((o9).view.loc (VT d L))) :
    Transfers.Flight EC (VT d L) (SemLoc.dma cc0_scratch8.sem) default 524288 iprop(P ∗ ouP d L (o9) f) ⊢ FO9 d L f R := by
  subst h
  exact BI.Entails.refl _

theorem off0 : k0_off1 L 0#32 0 = 6291456 + k0_off5 L t0 0#32 0 := by
  have e : k0_off1 L 0#32 = ![131072 * (L 1).val + 65536 * (L 0).val + 16384 * 0 + 6291456] := k0_off1_eq L ⟨0, by decide⟩
  have e' : k0_off5 L t0 0#32 = ![131072 * (L 1).val + 65536 * (L 0).val + 32768 * 0 + 16384 * 0] := k0_off5_eq L t0 ⟨0, by decide⟩
  rw [e, e', Matrix.cons_val_fin_one, Matrix.cons_val_fin_one]
  omega

theorem off1 : k0_off1 L 16384#32 0 = 6291456 + k0_off5 L t0 1#32 0 := by
  have e : k0_off1 L 16384#32 = ![131072 * (L 1).val + 65536 * (L 0).val + 16384 * 1 + 6291456] := k0_off1_eq L ⟨1, by decide⟩
  have e' : k0_off5 L t0 1#32 = ![131072 * (L 1).val + 65536 * (L 0).val + 32768 * 0 + 16384 * 1] := k0_off5_eq L t0 ⟨1, by decide⟩
  rw [e, e', Matrix.cons_val_fin_one, Matrix.cons_val_fin_one]
  omega

theorem off2 : k0_off6 L t0 0 = 6291456 + k0_off5 L t1 0#32 0 := by
  have e : k0_off6 L t0 = ![131072 * (L 1).val + 65536 * (L 0).val + 32768 * 0 + 6324224] := k0_off6_eq L t0
  have e' : k0_off5 L t1 0#32 = ![131072 * (L 1).val + 65536 * (L 0).val + 32768 * 1 + 16384 * 0] := k0_off5_eq L t1 ⟨0, by decide⟩
  rw [e, e', Matrix.cons_val_fin_one, Matrix.cons_val_fin_one]
  omega

theorem off3 : k0_off9 L t0 0 = 6291456 + k0_off5 L t1 1#32 0 := by
  have e : k0_off9 L t0 = ![131072 * (L 1).val + 65536 * (L 0).val + 32768 * 0 + 6340608] := k0_off9_eq L t0
  have e' : k0_off5 L t1 1#32 = ![131072 * (L 1).val + 65536 * (L 0).val + 32768 * 1 + 16384 * 1] := k0_off5_eq L t1 ⟨1, by decide⟩
  rw [e, e', Matrix.cons_val_fin_one, Matrix.cons_val_fin_one]
  omega

theorem lt_1024 (y : S16384.Idx) : (y 0).val < 16 * Scf.trips k0_t2_loop.lb k0_t2_loop.ub k0_t2_loop.st := by
  have h : Scf.trips k0_t2_loop.lb k0_t2_loop.ub k0_t2_loop.st = 1024 := by decide +kernel
  have hy : (y 0).val < 16384 := (y 0).isLt
  omega

theorem lt_1024' (y : S16384.Idx) : (y 0).val < 16 * Scf.trips k0_t3_loop.lb k0_t3_loop.ub k0_t3_loop.st := by
  have h : Scf.trips k0_t3_loop.lb k0_t3_loop.ub k0_t3_loop.st = 1024 := by decide +kernel
  have hy : (y 0).val < 16384 := (y 0).isLt
  omega

/-- The first pair of chunks. -/
theorem trip0 (q : PosShare TreeShare) (O : CellTallies nD τ sig (HIx 1)) (W : Waits sig (HIx 1)) (fo : Buf (Elt F) (oLoc d)) (v3 : BitVec 32) (acc : BitVec 32) :
    iprop(Transfers.MayWaits (VT d L) (default : HIx 1) O ∗ I0 X d L q O W fo)
      ⊢ wp frame (wpE (defs₀ (F := F)) 𝒱₀ (VT d L) none) Set.univ
          (k0_t1_body L xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0 v3
            (k0_pay10 (B d)) (k0_pay11 (B d)) (k0_pay12 (B d)) (k0_pay13 (B d)) (k0_pay14 (B d)) (k0_pay15 (B d)) (k0_pay16 (B d)) (k0_pay17 (B d)) (k0_pay18 (B d))
            (k0_pay19 : IVec S16 32) k0_pay20 k0_pay21 k0_pay22 5#32 t0 acc)
          fun _ => iprop(Transfers.MayWaits (VT d L) (default : HIx 1) O ∗ I1 X B d L q O W fo) := by
  unfold k0_t1_body
  simp only [k0_part1_eq_skeleton]; unfold k0_part1_skel
  have h1 := c1_t0; have h2 := c2_t0; have h3 := c3_t0; have h4 := c4_t0
  unfold I0
  iintro ⟨Hmw, HF6, HF7, Hx2, Hx3, Ho0, Ho1, Ho2, Ho3, ⟨%g8, Ho8⟩, ⟨%g9, Ho9⟩, Hs7, Hs8, %W', %hW, HO⟩
  sl_exec
  rw [wp_bind]
  sl_for (inv8 d L (B d) (ck0 X d L)) $$ [HF6_dst Ho8]
  case region => intro k u; exact step8 d L (B d) (ck0 X d L) v3 t0 k u
  · unfold inv8; isplitl [HF6_dst]; · iexact HF6_dst
    iexists g8; isplitr; · ipureintro; intro y h; omega
    iexact Ho8
  iintro %_ HI
  unfold inv8
  icases HI with ⟨HF6_dst, %f8, %h8, Ho8⟩
  sl_exec
  sl_for (inv9 d L (B d) (ck1 X d L)) $$ [HF7_dst Ho9]
  case region => intro k u; exact step9 d L (B d) (ck1 X d L) v3 t0 k u
  · unfold inv9; isplitl [HF7_dst]; · iexact HF7_dst
    iexists g9; isplitr; · ipureintro; intro y h; omega
    iexact Ho9
  iintro %_ HI
  unfold inv9
  icases HI with ⟨HF7_dst, %f9, %h9, Ho9⟩
  sl_exec
  rw [wp_ret]
  unfold I1
  imodintro
  isplitl [Hmw]; · iexact Hmw
  isplitl [HF6]; · iapply (FI6_of d L (ck0 X d L) (ck2 X d L) (xP d L (xc2 L) q (X d))); iexact HF6
  isplitl [HF7]; · iapply (FI7_of d L (ck1 X d L) (ck3 X d L) (xP d L (xc3 L) q (X d))); iexact HF7
  isplitl [HF6_src]; · iexact HF6_src
  isplitl [HF7_src]; · iexact HF7_src
  isplitl [Hs7]
  · iexists _; iapply (FO8_of d L (out_chunk X B d L (k0_off1_inb L 0) (k0_off5_inb L t0 0) (off0 L) fo f8 (fun y => h8 y (lt_1024 y))) f8); iexact Hs7
  isplitl [Hs8]
  · iexists _; iapply (FO9_of d L (out_chunk X B d L (k0_off1_inb L 1) (k0_off5_inb L t0 1) (off1 L) fo f9 (fun y => h9 y (lt_1024' y))) f9); iexact Hs8
  isplitl [Ho2]; · iexact Ho2
  isplitl [Ho3]; · iexact Ho3
  iexists _; isplitr; swap; · iexact HO
  ipureintro; repeat (first | exact hW | refine ins_ok ?_)

/-- The second pair. -/
theorem trip1 (q : PosShare TreeShare) (O : CellTallies nD τ sig (HIx 1)) (W : Waits sig (HIx 1)) (fo : Buf (Elt F) (oLoc d)) (v3 : BitVec 32) (acc : BitVec 32) :
    iprop(Transfers.MayWaits (VT d L) (default : HIx 1) O ∗ I1 X B d L q O W fo)
      ⊢ wp frame (wpE (defs₀ (F := F)) 𝒱₀ (VT d L) none) Set.univ
          (k0_t1_body L xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0 v3
            (k0_pay10 (B d)) (k0_pay11 (B d)) (k0_pay12 (B d)) (k0_pay13 (B d)) (k0_pay14 (B d)) (k0_pay15 (B d)) (k0_pay16 (B d)) (k0_pay17 (B d)) (k0_pay18 (B d))
            (k0_pay19 : IVec S16 32) k0_pay20 k0_pay21 k0_pay22 5#32 t1 acc)
          fun _ => iprop(Transfers.MayWaits (VT d L) (default : HIx 1) O ∗ I2 X B d L q O W) := by
  unfold k0_t1_body
  simp only [k0_part1_eq_skeleton]; unfold k0_part1_skel
  have h1 := c1_t1; have h2 := c2_t1; have h3 := c3_t1; have h4 := c4_t1
  unfold I1
  iintro ⟨Hmw, HF6, HF7, Hx0, Hx1, ⟨%g8, Hs7⟩, ⟨%g9, Hs8⟩, Ho2, Ho3, %W', %hW, HO⟩
  sl_exec
  rw [wp_bind]
  sl_for (inv8 d L (B d) (ck2 X d L)) $$ [HF6_dst Hs7_src]
  case region => intro k u; exact step8 d L (B d) (ck2 X d L) v3 t1 k u
  · unfold inv8; isplitl [HF6_dst]; · iexact HF6_dst
    iexists g8; isplitr; · ipureintro; intro y h; omega
    iexact Hs7_src
  iintro %_ HI
  unfold inv8
  icases HI with ⟨HF6_dst, %f8, %h8, Hs7_src⟩
  sl_exec
  sl_for (inv9 d L (B d) (ck3 X d L)) $$ [HF7_dst Hs8_src]
  case region => intro k u; exact step9 d L (B d) (ck3 X d L) v3 t1 k u
  · unfold inv9; isplitl [HF7_dst]; · iexact HF7_dst
    iexists g9; isplitr; · ipureintro; intro y h; omega
    iexact Hs8_src
  iintro %_ HI
  unfold inv9
  icases HI with ⟨HF7_dst, %f9, %h9, Hs8_src⟩
  sl_exec
  rw [wp_ret]
  unfold I2
  imodintro
  isplitl [Hmw]; · iexact Hmw
  isplitl [Hx0]; · iexact Hx0
  isplitl [Hx1]; · iexact Hx1
  isplitl [HF6_src]; · iexact HF6_src
  isplitl [HF7_src]; · iexact HF7_src
  isplitl [Hs7_dst]; · iexact Hs7_dst
  isplitl [Hs8_dst]; · iexact Hs8_dst
  isplitl [Hs7]
  · iexists _; iapply (FO8_of d L (out_chunk X B d L (k0_off6_inb L t0 c2_t0) (k0_off5_inb L t1 0) (off2 L) fo f8 (fun y => h8 y (lt_1024 y))) f8); iexact Hs7
  isplitl [Hs8]
  · iexists _; iapply (FO9_of d L (out_chunk X B d L (k0_off9_inb L t0 c4_t0) (k0_off5_inb L t1 1) (off3 L) fo f9 (fun y => h9 y (lt_1024' y))) f9); iexact Hs8
  isplitl [HF6_dst]; · iexists _; iexact HF6_dst
  isplitl [HF7_dst]; · iexists _; iexact HF7_dst
  isplitl [HF6]; · iexact HF6
  isplitl [HF7]; · iexact HF7
  iexists _; isplitr; swap; · iexact HO
  ipureintro; repeat (first | exact hW | refine ins_ok ?_)

/-- Before pair `k` of chunks. -/
def IK (q : PosShare TreeShare) (O : CellTallies nD τ sig (HIx 1)) (W : Waits sig (HIx 1)) (fo : Buf (Elt F) (oLoc d)) (k : Nat) (_ : BitVec 32) : sProp 𝕄 :=
  iprop(Transfers.MayWaits (VT d L) (default : HIx 1) O
    ∗ match k with | 0 => I0 X d L q O W fo | 1 => I1 X B d L q O W fo | _ => I2 X B d L q O W)

theorem IK_zero (q : PosShare TreeShare) (O : CellTallies nD τ sig (HIx 1)) (W : Waits sig (HIx 1)) (fo : Buf (Elt F) (oLoc d)) (u : BitVec 32) :
    iprop(Transfers.MayWaits (VT d L) (default : HIx 1) O ∗ I0 X d L q O W fo) ⊢ IK X B d L q O W fo 0 u := BI.Entails.refl _

theorem IK_end (q : PosShare TreeShare) (O : CellTallies nD τ sig (HIx 1)) (W : Waits sig (HIx 1)) (fo : Buf (Elt F) (oLoc d)) (u : BitVec 32) :
    IK X B d L q O W fo (Scf.trips k0_t1_loop.lb k0_t1_loop.ub k0_t1_loop.st) u
      ⊢ iprop(Transfers.MayWaits (VT d L) (default : HIx 1) O ∗ I2 X B d L q O W) := by
  rw [show Scf.trips k0_t1_loop.lb k0_t1_loop.ub k0_t1_loop.st = 2 by decide +kernel]
  exact BI.Entails.refl _

/-- What the tile loads of its copy of the boundaries: the boundaries. -/
theorem v10_cov (f : Buf (Elt F) ((b5).view.loc (VT d L))) (inb : ∀ a, (![0] : Fin 1 → ℕ) a + S16.size a ≤ S16.size a) :
    (b5).view.readAt (Elt F) (Rect.unit (s := S16) ![0] S16.size inb).toLoadRect
        ((b5).view.writes (Elt F) f [⟨Rect.whole S16, (bV).view.read (Elt F) (B d)⟩]) = B d := by
  have e := View.read_writes_whole (b5).view f ((bV).view.read (Elt F) (B d))
  funext y
  refine (congrArg ((b5).view.read (Elt F) ((b5).view.writes (Elt F) f [⟨Rect.whole S16, (bV).view.read (Elt F) (B d)⟩]))
    (funext fun a => Fin.ext ?_)).trans (congrFun e y)
  show (![0] : Fin 1 → ℕ) a + 1 * (y a).val = (y a).val
  have := inb a
  omega

/-- The whole task: the tile's four chunks of the result end at the classes of the chunks of the input behind them. -/
theorem tile_run (q : PosShare TreeShare) (O : CellTallies nD τ sig (HIx 1)) (W : Waits sig (HIx 1)) (fo : Buf (Elt F) (oLoc d))
    (g5 : Buf (Elt F) ((b5).view.loc (VT d L))) (g6 : Buf (Elt F) ((i6).view.loc (VT d L))) (g7 : Buf (Elt F) ((i7).view.loc (VT d L)))
    (g8 : Buf (Elt F) ((o8).view.loc (VT d L))) (g9 : Buf (Elt F) ((o9).view.loc (VT d L))) :
    iprop(Transfers.MayWaits (VT d L) (default : HIx 1) O
        ∗ xP d L (xc0 L) q (X d) ∗ xP d L (xc1 L) q (X d) ∗ xP d L (xc2 L) q (X d) ∗ xP d L (xc3 L) q (X d)
        ∗ vP d L q (B d)
        ∗ oP d L (oc0 L) fo ∗ oP d L (oc1 L) fo ∗ oP d L (oc2 L) fo ∗ oP d L (oc3 L) fo
        ∗ bP d L g5 ∗ inP d L (i6) g6 ∗ inP d L (i7) g7 ∗ ouP d L (o8) g8 ∗ ouP d L (o9) g9
        ∗ semVal (VT d L, SemLoc.dma cc0_scratch5.sem) 0 ∗ semVal (VT d L, SemLoc.dma cc0_scratch6.sem) 0
        ∗ semVal (VT d L, SemLoc.dma cc0_scratch7.sem) 0 ∗ semVal (VT d L, SemLoc.dma cc0_scratch8.sem) 0
        ∗ semVal (VT d L, SemLoc.dma cc0_scoped0.sem) 0
        ∗ owes (VT d L) O W)
      ⊢ wp frame (wpE (defs₀ (F := F)) 𝒱₀ (VT d L) none) Set.univ
          (cc0__sc_body L xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0)
          fun _ => iprop((xP d L (xc0 L) q (X d) ∗ xP d L (xc1 L) q (X d) ∗ xP d L (xc2 L) q (X d) ∗ xP d L (xc3 L) q (X d))
        ∗ vP d L q (B d)
        ∗ (oP d L (oc0 L) (outF X B d) ∗ oP d L (oc1 L) (outF X B d) ∗ oP d L (oc2 L) (outF X B d) ∗ oP d L (oc3 L) (outF X B d))
        ∗ (∃ f, bP d L f) ∗ (∃ f, inP d L (i6) f) ∗ (∃ f, inP d L (i7) f) ∗ (∃ f, ouP d L (o8) f) ∗ (∃ f, ouP d L (o9) f)
        ∗ semVal (VT d L, SemLoc.dma cc0_scratch5.sem) 0 ∗ semVal (VT d L, SemLoc.dma cc0_scratch6.sem) 0
        ∗ semVal (VT d L, SemLoc.dma cc0_scratch7.sem) 0 ∗ semVal (VT d L, SemLoc.dma cc0_scratch8.sem) 0
        ∗ semVal (VT d L, SemLoc.dma cc0_scoped0.sem) 0
        ∗ owing d L O W) := by
  simp only [cc0__sc_body_eq_skeleton]; unfold cc0__sc_body_skel
  simp only [k0_part2_eq_skeleton]; unfold k0_part2_skel
  iintro ⟨Hmw, Hx0, Hx1, Hx2, Hx3, HB, Ho0, Ho1, Ho2, Ho3, Hb, Hi6, Hi7, Ho8, Ho9, Hs5, Hs6, Hs7, Hs8, Hsr, HO⟩
  sl_exec
  sl_for (IK X B d L q O W fo) $$ [Hmw Hs5 Hs6 Hx2 Hx3 Ho0 Ho1 Ho2 Ho3 Ho8 Ho9 Hs7 Hs8 HO]
  case region =>
    intro k u
    obtain ⟨k, hk⟩ := k
    have h2 : k < 2 := hk
    match k, h2 with
    | 0, _ =>
      have hv : tile_run.sl.v10 B d = B d := v10_cov B d L _ _
      unfold tile_run.sl.prog.body_1; rw [hv]; exact trip0 X B d L q O W fo _ u
    | 1, _ =>
      have hv : tile_run.sl.v10 B d = B d := v10_cov B d L _ _
      unfold tile_run.sl.prog.body_1; rw [hv]; exact trip1 X B d L q O W fo _ u
  · iapply (IK_zero X B d L q O W fo _)
    unfold I0
    isplitl [Hmw]; · iexact Hmw
    isplitl [Hs5]; · iapply (FI6_of d L g6 (ck0 X d L) (xP d L (xc0 L) q (X d))); iexact Hs5
    isplitl [Hs6]; · iapply (FI7_of d L g7 (ck1 X d L) (xP d L (xc1 L) q (X d))); iexact Hs6
    isplitl [Hx2]; · iexact Hx2
    isplitl [Hx3]; · iexact Hx3
    isplitl [Ho0]; · iexact Ho0
    isplitl [Ho1]; · iexact Ho1
    isplitl [Ho2]; · iexact Ho2
    isplitl [Ho3]; · iexact Ho3
    isplitl [Ho8]; · iexists _; iexact Ho8
    isplitl [Ho9]; · iexists _; iexact Ho9
    isplitl [Hs7]; · iexact Hs7
    isplitl [Hs8]; · iexact Hs8
    iexists _; isplitr; swap; · iexact HO
    ipureintro; repeat (first | exact (fun _ h => Or.inl h) | refine ins_ok ?_)
  iintro %_ HI
  ihave HI2 := (IK_end X B d L q O W fo _) $$ HI
  unfold I2
  icases HI2 with ⟨Hmw, Hx0, Hx1, Hx2, Hx3, Ho0, Ho1, ⟨%f8, Hs7⟩, ⟨%f9, Hs8⟩, ⟨%f6, Hi6⟩, ⟨%f7, Hi7⟩, Hs5, Hs6, %W', %hW, HO⟩
  sl_exec
  rw [wp_ret]
  imodintro
  isplitl [Hx0 Hx1 Hx2 Hx3]
  · isplitl [Hx0]; · iexact Hx0
    isplitl [Hx1]; · iexact Hx1
    isplitl [Hx2] <;> iassumption
  isplitl [HB]; · iexact HB
  isplitl [Ho0 Ho1 Hs7_dst Hs8_dst]
  · isplitl [Ho0]; · iexact Ho0
    isplitl [Ho1]; · iexact Ho1
    isplitl [Hs7_dst]; · iexact Hs7_dst
    iexact Hs8_dst
  isplitl [Hb]; · iexists _; iexact Hb
  isplitl [Hi6]; · iexists _; iexact Hi6
  isplitl [Hi7]; · iexists _; iexact Hi7
  isplitl [Hs7_src]; · iexists _; iexact Hs7_src
  isplitl [Hs8_src]; · iexists _; iexact Hs8_src
  isplitl [Hs5]; · iexact Hs5
  isplitl [Hs6]; · iexact Hs6
  isplitl [Hs7]; · iexact Hs7
  isplitl [Hs8]; · iexact Hs8
  isplitl [Hsr]; · iexact Hsr
  iexists _; isplitr; swap; · iexact HO
  ipureintro; repeat (first | exact hW | refine ins_ok ?_)

end Cert.Proof.Digit

end
-- ==== Proof.TileBody.lean ====
/-
  One tile's task as the launch deals it: its share of the input and of the boundaries, its block of the result, its own
  buffers and cells.
-/
module

public import proofs.«01_k».proof.Proof.Tile

@[expose] public section

noncomputable section

namespace Cert.Proof.Digit

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "xV" => (Memref.whole Cert.KernelIdeal.main_arg0_scv : Memref Cert.KernelIdeal.sig Kind.scVector Space.hbm Cert.KernelIdeal.S8388608 EltTy.f32)
local notation "bV" => (Memref.whole Cert.KernelIdeal.main_v10_scv : Memref Cert.KernelIdeal.sig Kind.scVector Space.hbm Cert.KernelIdeal.S16 EltTy.f32)
local notation "oV" => (Memref.whole Cert.KernelIdeal.main_v11_scv : Memref Cert.KernelIdeal.sig Kind.scVector Space.hbm Cert.KernelIdeal.S2097152 EltTy.i32)
local notation "b5" => (Memref.whole Cert.KernelIdeal.cc0_scratch0 : Memref Cert.KernelIdeal.sig Kind.scVector Space.vmem Cert.KernelIdeal.S16 EltTy.f32)
local notation "i6" => (Memref.whole Cert.KernelIdeal.cc0_scratch1 : Memref Cert.KernelIdeal.sig Kind.scVector Space.vmem Cert.KernelIdeal.S16384 EltTy.f32)
local notation "i7" => (Memref.whole Cert.KernelIdeal.cc0_scratch2 : Memref Cert.KernelIdeal.sig Kind.scVector Space.vmem Cert.KernelIdeal.S16384 EltTy.f32)
local notation "o8" => (Memref.whole Cert.KernelIdeal.cc0_scratch3 : Memref Cert.KernelIdeal.sig Kind.scVector Space.vmem Cert.KernelIdeal.S16384 EltTy.i32)
local notation "o9" => (Memref.whole Cert.KernelIdeal.cc0_scratch4 : Memref Cert.KernelIdeal.sig Kind.scVector Space.vmem Cert.KernelIdeal.S16384 EltTy.i32)

variable [FloatOps F]
variable (X : (d : Dev nD) → Buf (Elt F) (xLoc d)) (B : (d : Dev nD) → Buf (Elt F) (bLoc d)) (O₀ : (d : Dev nD) → Buf (Elt F) (oLoc d))
variable (d : Dev nD) (L : grid0.Coords)

/-! ## Which elements a chunk is -/

omit [FloatOps F] in
/-- An element of a chunk of the input, by its coordinate. -/
theorem mem_x {off : Fin 1 → ℕ} (h : ∀ a, off a + S16384.size a ≤ S8388608.size a) (i : S8388608.Idx) :
    i ∈ ((xV).slice (Rect.unit (s := S8388608) off S16384.size h) (fun _ => rfl)).view.set ↔ off 0 ≤ (i 0).val ∧ (i 0).val < off 0 + 16384 := by
  have e : ((xV).slice (Rect.unit (s := S8388608) off S16384.size h) (fun _ => rfl)).view.set = (Rect.unit (s := S8388608) off S16384.size h).set := by
    show ((View.whole (main_arg0_scv : Ref sig .scVector)).slice (Rect.unit (s := S8388608) off S16384.size h)).set = _
    rw [View.set_slice]; exact Finset.map_refl
  rw [e, Rect.mem_set_unit]
  exact Fin.forall_fin_one

omit [FloatOps F] in
/-- An element of a chunk of the result, by its coordinate. -/
theorem mem_o {off : Fin 1 → ℕ} (h : ∀ a, off a + S16384.size a ≤ S2097152.size a) (i : S2097152.Idx) :
    i ∈ ((oV).slice (Rect.unit (s := S2097152) off S16384.size h) (fun _ => rfl)).view.set ↔ off 0 ≤ (i 0).val ∧ (i 0).val < off 0 + 16384 := by
  have e : ((oV).slice (Rect.unit (s := S2097152) off S16384.size h) (fun _ => rfl)).view.set = (Rect.unit (s := S2097152) off S16384.size h).set := by
    show ((View.whole (main_v11_scv : Ref sig .scVector)).slice (Rect.unit (s := S2097152) off S16384.size h)).set = _
    rw [View.set_slice]; exact Finset.map_refl
  rw [e, Rect.mem_set_unit]
  exact Fin.forall_fin_one

/-- The tile's core and its number on it. -/
abbrev cI : Fin 2 := ⟨(L 0).val, (L 0).isLt⟩
abbrev sI : Fin 16 := ⟨(L 1).val, (L 1).isLt⟩

omit [FloatOps F] in
theorem mem_oSet (c : Fin 2) (s : Fin 16) (i : S2097152.Idx) :
    i ∈ oSet c s ↔ (2 * s.val + c.val) * 65536 ≤ (i 0).val ∧ (i 0).val < (2 * s.val + c.val) * 65536 + 65536 := by
  show i ∈ (Rect.part (s := S2097152) (a₀ := 0) odiv (wid c s)).set ↔ _
  rw [Rect.mem_set_unit]
  exact Fin.forall_fin_one

theorem o_off0 : k0_off5 L t0 0#32 0 = (2 * (sI L).val + (cI L).val) * 65536 := by
  have e' : k0_off5 L t0 0#32 = ![131072 * (L 1).val + 65536 * (L 0).val + 32768 * 0 + 16384 * 0] := k0_off5_eq L t0 ⟨0, by decide⟩
  rw [e', Matrix.cons_val_fin_one]; show _ = (2 * (L 1).val + (L 0).val) * 65536; omega
theorem o_off1 : k0_off5 L t0 1#32 0 = (2 * (sI L).val + (cI L).val) * 65536 + 16384 := by
  have e' : k0_off5 L t0 1#32 = ![131072 * (L 1).val + 65536 * (L 0).val + 32768 * 0 + 16384 * 1] := k0_off5_eq L t0 ⟨1, by decide⟩
  rw [e', Matrix.cons_val_fin_one]; show _ = (2 * (L 1).val + (L 0).val) * 65536 + 16384; omega
theorem o_off2 : k0_off5 L t1 0#32 0 = (2 * (sI L).val + (cI L).val) * 65536 + 32768 := by
  have e' : k0_off5 L t1 0#32 = ![131072 * (L 1).val + 65536 * (L 0).val + 32768 * 1 + 16384 * 0] := k0_off5_eq L t1 ⟨0, by decide⟩
  rw [e', Matrix.cons_val_fin_one]; show _ = (2 * (L 1).val + (L 0).val) * 65536 + 32768; omega
theorem o_off3 : k0_off5 L t1 1#32 0 = (2 * (sI L).val + (cI L).val) * 65536 + 49152 := by
  have e' : k0_off5 L t1 1#32 = ![131072 * (L 1).val + 65536 * (L 0).val + 32768 * 1 + 16384 * 1] := k0_off5_eq L t1 ⟨1, by decide⟩
  rw [e', Matrix.cons_val_fin_one]; show _ = (2 * (L 1).val + (L 0).val) * 65536 + 49152; omega

/-! ## A points-to as four chunks and a rest -/

omit [FloatOps F] in
theorem split4 {ℓ : Loc nD τ sig} {S A0 A1 A2 A3 : Finset (Idx ℓ)} (q : PosShare TreeShare) (f : Buf (Elt F) ℓ)
    (h0 : A0 ⊆ S) (h1 : A1 ⊆ S \ A0) (h2 : A2 ⊆ (S \ A0) \ A1) (h3 : A3 ⊆ ((S \ A0) \ A1) \ A2) :
    (ℓ ↦[S]{q} f : sProp 𝕄) ⊣⊢ iprop((ℓ ↦[A0]{q} f) ∗ (ℓ ↦[A1]{q} f) ∗ (ℓ ↦[A2]{q} f) ∗ (ℓ ↦[A3]{q} f) ∗ ℓ ↦[(((S \ A0) \ A1) \ A2) \ A3]{q} f) := by
  constructor
  · iintro H
    ihave H := (pointsTo_split_subset h0).1 $$ H
    icases H with ⟨H0, H⟩
    ihave H := (pointsTo_split_subset h1).1 $$ H
    icases H with ⟨H1, H⟩
    ihave H := (pointsTo_split_subset h2).1 $$ H
    icases H with ⟨H2, H⟩
    ihave H := (pointsTo_split_subset h3).1 $$ H
    icases H with ⟨H3, H⟩
    isplitl [H0]; · iexact H0
    isplitl [H1]; · iexact H1
    isplitl [H2]; · iexact H2
    isplitl [H3] <;> iassumption
  · iintro ⟨H0, H1, H2, H3, H⟩
    iapply (pointsTo_split_subset h0).2
    isplitl [H0]; · iexact H0
    iapply (pointsTo_split_subset h1).2
    isplitl [H1]; · iexact H1
    iapply (pointsTo_split_subset h2).2
    isplitl [H2]; · iexact H2
    iapply (pointsTo_split_subset h3).2
    isplitl [H3] <;> iassumption

/-- What of the input the tile does not read. -/
abbrev xRest : Finset S8388608.Idx := (((Finset.univ \ (xc0 L).view.set) \ (xc1 L).view.set) \ (xc2 L).view.set) \ (xc3 L).view.set

omit [FloatOps F] in
theorem x_split (q : PosShare TreeShare) (f : Buf (Elt F) (xLoc d)) :
    (xLoc d ↦{q} f : sProp 𝕄) ⊣⊢ iprop(xP d L (xc0 L) q f ∗ xP d L (xc1 L) q f ∗ xP d L (xc2 L) q f ∗ xP d L (xc3 L) q f ∗ xLoc d ↦[xRest L]{q} f) := by
  have e0 := off0 L; have e1 := off1 L; have e2 := off2 L; have e3 := off3 L
  rw [o_off0] at e0; rw [o_off1] at e1; rw [o_off2] at e2; rw [o_off3] at e3
  refine split4 (ℓ := xLoc d) (A0 := (xc0 L).view.set) (A1 := (xc1 L).view.set) (A2 := (xc2 L).view.set) (A3 := (xc3 L).view.set) q f
    (Finset.subset_univ _) (fun (i : S8388608.Idx) hi => ?_) (fun (i : S8388608.Idx) hi => ?_) (fun (i : S8388608.Idx) hi => ?_)
  · have h1 := (mem_x _ i).mp hi
    refine Finset.mem_sdiff.mpr ⟨Finset.mem_univ i, fun h => ?_⟩
    have h := (mem_x _ i).mp h
    omega
  · have h1 := (mem_x _ i).mp hi
    refine Finset.mem_sdiff.mpr ⟨Finset.mem_sdiff.mpr ⟨Finset.mem_univ i, fun h => ?_⟩, fun h => ?_⟩ <;>
    · have h := (mem_x _ i).mp h
      omega
  · have h1 := (mem_x _ i).mp hi
    refine Finset.mem_sdiff.mpr ⟨Finset.mem_sdiff.mpr ⟨Finset.mem_sdiff.mpr ⟨Finset.mem_univ i, fun h => ?_⟩, fun h => ?_⟩, fun h => ?_⟩ <;>
    · have h := (mem_x _ i).mp h
      omega

omit [FloatOps F] in
/-- The tile's block of the result is its four chunks. -/
theorem o_split (f : Buf (Elt F) (oLoc d)) :
    (oPts d (oSet (cI L) (sI L)) f : sProp 𝕄) ⊣⊢ iprop(oP d L (oc0 L) f ∗ oP d L (oc1 L) f ∗ oP d L (oc2 L) f ∗ oP d L (oc3 L) f) := by
  have e0 := o_off0 L; have e1 := o_off1 L; have e2 := o_off2 L; have e3 := o_off3 L
  have hS := mem_oSet (cI L) (sI L)
  have key := split4 (F := F) (ℓ := oLoc d) (S := oSet (cI L) (sI L)) (A0 := (oc0 L).view.set) (A1 := (oc1 L).view.set) (A2 := (oc2 L).view.set) (A3 := (oc3 L).view.set) fullShare f
    (fun (i : S2097152.Idx) hi => by
      have h1 := (mem_o _ i).mp hi
      refine (hS i).mpr ?_
      omega)
    (fun (i : S2097152.Idx) hi => by
      have h1 := (mem_o _ i).mp hi
      refine Finset.mem_sdiff.mpr ⟨(hS i).mpr ?_, fun h => ?_⟩
      · omega
      · have h := (mem_o _ i).mp h
        omega)
    (fun (i : S2097152.Idx) hi => by
      have h1 := (mem_o _ i).mp hi
      refine Finset.mem_sdiff.mpr ⟨Finset.mem_sdiff.mpr ⟨(hS i).mpr ?_, fun h => ?_⟩, fun h => ?_⟩
      · omega
      all_goals
        have h := (mem_o _ i).mp h
        omega)
    (fun (i : S2097152.Idx) hi => by
      have h1 := (mem_o _ i).mp hi
      refine Finset.mem_sdiff.mpr ⟨Finset.mem_sdiff.mpr ⟨Finset.mem_sdiff.mpr ⟨(hS i).mpr ?_, fun h => ?_⟩, fun h => ?_⟩, fun h => ?_⟩
      · omega
      all_goals
        have h := (mem_o _ i).mp h
        omega)
  have hz : (((oSet (cI L) (sI L) \ (oc0 L).view.set) \ (oc1 L).view.set) \ (oc2 L).view.set) \ (oc3 L).view.set = (∅ : Finset S2097152.Idx) := by
    refine Finset.eq_empty_of_forall_notMem fun i hi => ?_
    obtain ⟨hi, n3⟩ := Finset.mem_sdiff.mp hi
    obtain ⟨hi, n2⟩ := Finset.mem_sdiff.mp hi
    obtain ⟨hi, n1⟩ := Finset.mem_sdiff.mp hi
    obtain ⟨hi, n0⟩ := Finset.mem_sdiff.mp hi
    have h := (hS i).mp hi
    rw [mem_o] at n0 n1 n2 n3
    omega
  constructor
  · iintro H
    ihave H := key.1 $$ H
    icases H with ⟨H0, H1, H2, H3, -⟩
    isplitl [H0]; · iexact H0
    isplitl [H1]; · iexact H1
    isplitl [H2]; · iexact H2
    iexact H3
  · iintro ⟨H0, H1, H2, H3⟩
    iapply key.2
    isplitl [H0]; · iexact H0
    isplitl [H1]; · iexact H1
    isplitl [H2]; · iexact H2
    isplitl [H3]; · iexact H3
    rw [hz, pointsTo_empty]
    iempintro

/-! ## The tile's own buffers and cells -/

abbrev dcell (c : Fin τ.nSC) (i : Fin τ.nSub) (k : Fin 5) : GSem nD τ sig := (V d c i, .dma (⟨k.val, by have := k.isLt; show k.val < 10; omega⟩ : DmaSem sig))

abbrev cells0 : sProp 𝕄 :=
  iprop(semVal (VT d L, SemLoc.dma cc0_scratch5.sem) 0 ∗ semVal (VT d L, SemLoc.dma cc0_scratch6.sem) 0
        ∗ semVal (VT d L, SemLoc.dma cc0_scratch7.sem) 0 ∗ semVal (VT d L, SemLoc.dma cc0_scratch8.sem) 0
        ∗ semVal (VT d L, SemLoc.dma cc0_scoped0.sem) 0)

theorem dcell_scoped : ∀ k : Fin 5, (SemLoc.dma (⟨k.val, by have := k.isLt; show k.val < 10; omega⟩ : DmaSem sig) : SemLoc sig).isScoped .scVector = true := by decide

/-- The tile's own cells at zero: the five the task names, and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => mem_ownCells.mpr ⟨rfl, dcell_scoped k⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

abbrev vref (b : Ref sig .scVector) : DevRef τ sig := (Proc.scVector (cV L) (jV L)).devRef b

/-- The tile's own buffers: the five the task names, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep ((((((ownRefs (τ := τ) (.scVector (cV L) (jV L))).erase (vref L cc0_scratch0)).erase (vref L cc0_scratch1)).erase
              (vref L cc0_scratch2)).erase (vref L cc0_scratch3)).erase (vref L cc0_scratch4))
              fun b => iprop(∃ f, ((d, b) : Loc nD τ sig) ↦{fullShare} f)) := by
  unfold SparseCore.Cfg.ownBufs
  have ne : ∀ {a b : Ref sig .scVector}, a ≠ b → vref L a ≠ vref L b := fun h e => h (Proc.devRef_injective _ e)
  have own : ∀ {b : Ref sig .scVector}, (vref L b).owner = .proc (.scVector (cV L) (jV L)) → vref L b ∈ ownRefs (τ := τ) (.scVector (cV L) (jV L)) :=
    fun h => SparseCore.Cfg.mem_ownRefs_of_owner h
  rw [SparseCore.bigSep_erase' (own (b := cc0_scratch0) rfl),
    SparseCore.bigSep_erase' (Finset.mem_erase.mpr ⟨ne (by decide), own (b := cc0_scratch1) rfl⟩),
    SparseCore.bigSep_erase' (Finset.mem_erase.mpr ⟨ne (by decide), Finset.mem_erase.mpr ⟨ne (by decide), own (b := cc0_scratch2) rfl⟩⟩),
    SparseCore.bigSep_erase' (Finset.mem_erase.mpr ⟨ne (by decide), Finset.mem_erase.mpr ⟨ne (by decide), Finset.mem_erase.mpr ⟨ne (by decide), own (b := cc0_scratch3) rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), own (b := cc0_scratch4) rfl⟩⟩⟩⟩)]

omit [FloatOps F] in
theorem b5_eq (f : Buf (Elt F) ((VT d L).loc cc0_scratch0)) : (bP d L f : sProp 𝕄) = ((VT d L).loc cc0_scratch0 ↦{fullShare} f) := by
  unfold bP; rw [View.set_whole]
omit [FloatOps F] in
theorem i6_eq (f : Buf (Elt F) ((VT d L).loc cc0_scratch1)) : (inP d L (i6) f : sProp 𝕄) = ((VT d L).loc cc0_scratch1 ↦{fullShare} f) := by
  unfold inP; rw [View.set_whole]
omit [FloatOps F] in
theorem i7_eq (f : Buf (Elt F) ((VT d L).loc cc0_scratch2)) : (inP d L (i7) f : sProp 𝕄) = ((VT d L).loc cc0_scratch2 ↦{fullShare} f) := by
  unfold inP; rw [View.set_whole]
omit [FloatOps F] in
theorem o8_eq (f : Buf (Elt F) ((VT d L).loc cc0_scratch3)) : (ouP d L (o8) f : sProp 𝕄) = ((VT d L).loc cc0_scratch3 ↦{fullShare} f) := by
  unfold ouP; rw [View.set_whole]
omit [FloatOps F] in
theorem o9_eq (f : Buf (Elt F) ((VT d L).loc cc0_scratch4)) : (ouP d L (o9) f : sProp 𝕄) = ((VT d L).loc cc0_scratch4 ↦{fullShare} f) := by
  unfold ouP; rw [View.set_whole]
omit [FloatOps F] in
theorem v_eq (q : PosShare TreeShare) (f : Buf (Elt F) (bLoc d)) : (vP d L q f : sProp 𝕄) = (bLoc d ↦{q} f) := by
  unfold vP; rw [View.set_whole]

/-! ## The task -/

/-- The task on one tile, from what the launch deals it to what it hands back. -/
theorem tile_body (hF : (K (F := F)).Facts) (O : CellTallies nD τ sig (HIx 1)) (W : Waits sig (HIx 1)) (hO : ∀ g, O g none = 0) (q : PosShare TreeShare) :
    iprop(levAts (K (F := F)).L (K (F := F)).lev ∗ emp
        ∗ (xPts X d q ∗ bPts B d q ∗ oPts d (oSet (cI L) (sI L)) (O₀ d))
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0)
          fun _ => iprop((xPts X d q ∗ bPts B d q ∗ oPts d (oSet (cI L) (sI L)) (outF X B d))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hv, Ho⟩, ⟨⟨%g5, H5⟩, ⟨%g6, H6⟩, ⟨%g7, H7⟩, ⟨%g8, H8⟩, ⟨%g9, H9⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hx := (x_split d L q (X d)).1 $$ Hx
  icases Hx with ⟨Hx0, Hx1, Hx2, Hx3, Hxr⟩
  ihave Ho := (o_split d L (O₀ d)).1 $$ Ho
  icases Ho with ⟨Ho0, Ho1, Ho2, Ho3⟩
  ihave Hv := (Entails.of_eq (v_eq d L q (B d)).symm) $$ Hv
  ihave H5 := (Entails.of_eq (b5_eq d L g5).symm) $$ H5
  ihave H6 := (Entails.of_eq (i6_eq d L g6).symm) $$ H6
  ihave H7 := (Entails.of_eq (i7_eq d L g7).symm) $$ H7
  ihave H8 := (Entails.of_eq (o8_eq d L g8).symm) $$ H8
  ihave H9 := (Entails.of_eq (o9_eq d L g9).symm) $$ H9
  icases HC with ⟨Hs5, Hs6, Hs7, Hs8, Hsr⟩
  iapply (wp_wand_r Idealize.ShloMosaic.frame (wpE (defs₀ (F := F)) 𝒱₀ (VT d L) none) Set.univ)
  isplitl [Hx0 Hx1 Hx2 Hx3 Ho0 Ho1 Ho2 Ho3 Hv H5 H6 H7 H8 H9 Hs5 Hs6 Hs7 Hs8 Hsr HO]
  · iapply (tile_run X B d L q O W (O₀ d) g5 g6 g7 g8 g9)
    isplitr; · iexact Hmw
    isplitl [Hx0]; · iexact Hx0
    isplitl [Hx1]; · iexact Hx1
    isplitl [Hx2]; · iexact Hx2
    isplitl [Hx3]; · iexact Hx3
    isplitl [Hv]; · iexact Hv
    isplitl [Ho0]; · iexact Ho0
    isplitl [Ho1]; · iexact Ho1
    isplitl [Ho2]; · iexact Ho2
    isplitl [Ho3]; · iexact Ho3
    isplitl [H5]; · iexact H5
    isplitl [H6]; · iexact H6
    isplitl [H7]; · iexact H7
    isplitl [H8]; · iexact H8
    isplitl [H9]; · iexact H9
    isplitl [Hs5]; · iexact Hs5
    isplitl [Hs6]; · iexact Hs6
    isplitl [Hs7]; · iexact Hs7
    isplitl [Hs8]; · iexact Hs8
    isplitl [Hsr]; · iexact Hsr
    iexact HO
  iintro %_ ⟨⟨Hx0, Hx1, Hx2, Hx3⟩, Hv, ⟨Ho0, Ho1, Ho2, Ho3⟩, ⟨%f5, H5⟩, ⟨%f6, H6⟩, ⟨%f7, H7⟩, ⟨%f8, H8⟩, ⟨%f9, H9⟩, Hs5, Hs6, Hs7, Hs8, Hsr, ⟨%W', %hW', HO⟩⟩
  isplitl [Hx0 Hx1 Hx2 Hx3 Hxr Hv Ho0 Ho1 Ho2 Ho3]
  · isplitl [Hx0 Hx1 Hx2 Hx3 Hxr]
    · iapply (x_split d L q (X d)).2
      isplitl [Hx0]; · iexact Hx0
      isplitl [Hx1]; · iexact Hx1
      isplitl [Hx2]; · iexact Hx2
      isplitl [Hx3] <;> iassumption
    isplitl [Hv]; · iapply (Entails.of_eq (v_eq d L q (B d))); iexact Hv
    iapply (o_split d L (outF X B d)).2
    isplitl [Ho0]; · iexact Ho0
    isplitl [Ho1]; · iexact Ho1
    isplitl [Ho2] <;> iassumption
  isplitl [H5 H6 H7 H8 H9 Hbufs]
  · isplitl [H5]; · iexists _; iapply (Entails.of_eq (b5_eq d L _)); iexact H5
    isplitl [H6]; · iexists _; iapply (Entails.of_eq (i6_eq d L _)); iexact H6
    isplitl [H7]; · iexists _; iapply (Entails.of_eq (i7_eq d L _)); iexact H7
    isplitl [H8]; · iexists _; iapply (Entails.of_eq (o8_eq d L _)); iexact H8
    isplitl [H9]; · iexists _; iapply (Entails.of_eq (o9_eq d L _)); iexact H9
    iexact Hbufs
  isplitl [Hs5 Hs6 Hs7 Hs8 Hsr Hsems]
  · isplitr [Hsems]
    · isplitl [Hs5]; · iexact Hs5
      isplitl [Hs6]; · iexact Hs6
      isplitl [Hs7]; · iexact Hs7
      isplitl [Hs8] <;> iassumption
    iexact Hsems
  iexists W'; isplitr
  · ipureintro; intro p hp
    exact (hW' p hp).imp_right Or.inl
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) bV (Memref.isWhole_whole _) oV (Memref.isWhole_whole _) b5 (Memref.isWhole_whole _)
            i6 (Memref.isWhole_whole _) i7 (Memref.isWhole_whole _) o8 (Memref.isWhole_whole _) o9 (Memref.isWhole_whole _)
            cc0_scratch5 cc0_scratch6 cc0_scratch7 cc0_scratch8 cc0_scoped0) ⟨⟩ c s := rfl

theorem tileObl (hF : (K (F := F)).Facts) : (K (F := F)).TileObl (D (F := F)) 𝒱 (P X B O₀) v₀ 0 := by
  intro d c i O W hO _ _
  simp only [show (P (F := F) X B O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X B O₀ d (coordsV ⟨_, hci.1⟩ ⟨_, hci.2⟩) hF O W hO (tq (Fin.cast nCore_zero c) (Fin.cast nSub_zero i))

/-! ## A core's part dealt to its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem oSets_disjoint (c : Fin 2) : ∀ i ∈ (Finset.univ : Finset (Fin 16)), ∀ j ∈ (Finset.univ : Finset (Fin 16)), i ≠ j → Disjoint (oSet c i) (oSet c j) :=
  fun i _ j _ h => Rect.part_disjoint odiv fun e => h (Fin.ext (by have := congrArg Fin.val e; simp only [wid] at this; omega))

omit [FloatOps F] in
theorem oCore_eq (c : Fin 2) (f : Buf (Elt F) (oLoc d)) :
    (oPts d (oCore c) f : sProp 𝕄) = bigSep Finset.univ fun i : Fin 16 => oPts d (oSet c i) f :=
  pointsTo_biUnion Finset.univ (ℓ := oLoc d) (oSet c) (oSets_disjoint c)

theorem vecSplit : (K (F := F)).VecSplit' (P X B O₀) 0 := by
  intro d c
  show iprop(xPts X d (cq (Fin.cast nCore_zero c)) ∗ bPts B d (cq (Fin.cast nCore_zero c)) ∗ oPts d (oCore (Fin.cast nCore_zero c)) (O₀ d)) ⊢ |={Set.univ}=> iprop(
      (bigSep Finset.univ fun i : Fin ((K (F := F)).nSub 0) =>
        iprop(xPts X d (tq (Fin.cast nCore_zero c) (Fin.cast nSub_zero i)) ∗ bPts B d (tq (Fin.cast nCore_zero c) (Fin.cast nSub_zero i)) ∗ oPts d (oSet (Fin.cast nCore_zero c) (Fin.cast nSub_zero i)) (O₀ d)))
      ∗ ((bigSep Finset.univ fun i : Fin ((K (F := F)).nSub 0) =>
        iprop(xPts X d (tq (Fin.cast nCore_zero c) (Fin.cast nSub_zero i)) ∗ bPts B d (tq (Fin.cast nCore_zero c) (Fin.cast nSub_zero i)) ∗ oPts d (oSet (Fin.cast nCore_zero c) (Fin.cast nSub_zero i)) (outF X B d)))
          -∗ iprop(xPts X d (cq (Fin.cast nCore_zero c)) ∗ bPts B d (cq (Fin.cast nCore_zero c)) ∗ oPts d (oCore (Fin.cast nCore_zero c)) (outF X B d))))
  generalize Fin.cast nCore_zero c = c'
  rw [bigSep_tasks (F := F) (fun i => iprop(xPts X d (tq c' i) ∗ bPts B d (tq c' i) ∗ oPts d (oSet c' i) (O₀ d))),
    bigSep_tasks (F := F) (fun i => iprop(xPts X d (tq c' i) ∗ bPts B d (tq c' i) ∗ oPts d (oSet c' i) (outF X B d))),
    bigSep_sep', bigSep_sep', bigSep_sep', bigSep_sep', oCore_eq, oCore_eq]
  iintro ⟨Hx, Hb, Ho⟩
  ihave Hx := (Transfers.pointsTo_toks (cq c') 16).1 $$ Hx
  icases Hx with ⟨Hxd, Hx⟩
  ihave Hb := (Transfers.pointsTo_toks (cq c') 16).1 $$ Hb
  icases Hb with ⟨Hbd, Hb⟩
  imodintro
  isplitl [Hx Hb Ho]
  · isplitl [Hx]; · iexact Hx
    isplitl [Hb] <;> iassumption
  iintro ⟨Hx, Hb, Ho⟩
  isplitl [Hx Hxd]
  · iapply (Transfers.pointsTo_toks (cq c') 16).2
    isplitl [Hxd] <;> iassumption
  isplitl [Hb Hbd]
  · iapply (Transfers.pointsTo_toks (cq c') 16).2
    isplitl [Hbd] <;> iassumption
  iexact Ho

end Cert.Proof.Digit

end
-- ==== Proof.Region.lean ====
/-
  The TensorCore's part: the body at one point of its grid, and the region over the unscoped buffers.
-/
module

public import proofs.«01_k».proof.Proof.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.RegionArraysS
public import Idealize.ShloMosaic.Lib.Pipeline.Value

@[expose] public section

noncomputable section

namespace Cert.Proof.Digit

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}
local notation "𝕄" => MT nD τ sig (HIx 1) (Elt F) ℕ UU ℕ

local notation "xV" => (Memref.whole Cert.KernelIdeal.main_arg0_scv : Memref Cert.KernelIdeal.sig Kind.scVector Space.hbm Cert.KernelIdeal.S8388608 EltTy.f32)
local notation "bV" => (Memref.whole Cert.KernelIdeal.main_v10_scv : Memref Cert.KernelIdeal.sig Kind.scVector Space.hbm Cert.KernelIdeal.S16 EltTy.f32)
local notation "oV" => (Memref.whole Cert.KernelIdeal.main_v11_scv : Memref Cert.KernelIdeal.sig Kind.scVector Space.hbm Cert.KernelIdeal.S2097152 EltTy.i32)
local notation "b5" => (Memref.whole Cert.KernelIdeal.cc0_scratch0 : Memref Cert.KernelIdeal.sig Kind.scVector Space.vmem Cert.KernelIdeal.S16 EltTy.f32)
local notation "i6" => (Memref.whole Cert.KernelIdeal.cc0_scratch1 : Memref Cert.KernelIdeal.sig Kind.scVector Space.vmem Cert.KernelIdeal.S16384 EltTy.f32)
local notation "i7" => (Memref.whole Cert.KernelIdeal.cc0_scratch2 : Memref Cert.KernelIdeal.sig Kind.scVector Space.vmem Cert.KernelIdeal.S16384 EltTy.f32)
local notation "o8" => (Memref.whole Cert.KernelIdeal.cc0_scratch3 : Memref Cert.KernelIdeal.sig Kind.scVector Space.vmem Cert.KernelIdeal.S16384 EltTy.i32)
local notation "o9" => (Memref.whole Cert.KernelIdeal.cc0_scratch4 : Memref Cert.KernelIdeal.sig Kind.scVector Space.vmem Cert.KernelIdeal.S16384 EltTy.i32)

variable [FloatOps F]

/-! ## The body at one point -/

section Body

variable (c : Dev nD) (i : grid1.Coords)
variable (M1 : Memref sig .tc .smem S16 .f32) (h1 : M1.IsWhole) (M2 : Memref sig .tc .vmem S1048576 .f32) (h2 : M2.IsWhole)
  (M3 : Memref sig .tc .vmem S1048576 .i32) (h3 : M3.IsWhole)

omit [FloatOps F] in
/-- A block read whole is the block. -/
theorem load_whole {κ : Kind} {sp : Space} {e : EltTy} (v : View sig κ sp S1048576 e) (f : v.ty.Contents (Elt F)) (h : ∀ a, (![0] : Fin 1 → ℕ) a + S1048576.size a ≤ S1048576.size a) :
    View.readAt (Elt F) v (Rect.unit (s := S1048576) ![0] S1048576.size h).toLoadRect f = View.read (Elt F) v f :=
  funext fun y => congrArg (View.read (Elt F) v f) (funext (Fin.forall_fin_one.mpr (Fin.ext (by show 0 + 1 * (y 0).val = (y 0).val; omega))))

omit [FloatOps F] in
/-- A word read at lane `k` is lane `k`. -/
theorem load_lane {κ : Kind} {sp : Space} {e : EltTy} (v : View sig κ sp S16 e) (f : v.ty.Contents (Elt F)) (k : Fin 16) {off : Fin 1 → ℕ} (hk : off 0 = k.val)
    (h : ∀ a, off a + S1.size a ≤ S16.size a) (z : (Rect.unit (s := S16) off S1.size h).toLoadRect.shape.Idx) :
    View.readAt (Elt F) v (Rect.unit (s := S16) off S1.size h).toLoadRect f z = View.read (Elt F) v f (lane k) :=
  congrArg (View.read (Elt F) v f) (funext (Fin.forall_fin_one.mpr (Fin.ext (by
    have hz : (z 0).val < 1 := (z 0).isLt
    show off 0 + 1 * (z 0).val = k.val; omega))))

/-- What the body stores is the class of each element. -/
theorem pay_eq (g : S16.Idx → F .f32) (v : S1048576.Idx → F .f32) (a0 a1 a2 a3 a4 a5 a6 a7 a8 : F .f32)
    (h0 : a0 = g (lane 0)) (h1 : a1 = g (lane 1)) (h2 : a2 = g (lane 2)) (h3 : a3 = g (lane 3)) (h4 : a4 = g (lane 4))
    (h5 : a5 = g (lane 5)) (h6 : a6 = g (lane 6)) (h7 : a7 = g (lane 7)) (h8 : a8 = g (lane 8)) (j : S1048576.Idx) :
    k1_pay1 (F := F) v (k1_pay2 v a0 a1 a2 a3 a4 a5 a6) (k1_pay3 v a7) k1_pay4 a8 j = digit g (v j) := by
  subst h0 h1 h2 h3 h4 h5 h6 h7 h8; rfl

theorem body_run (g : S16.Idx → F .f32) (x : S1048576.Idx → F .f32) (y : S1048576.Idx → BitVec 32) :
    iprop(owns (c.tc : Thread nD τ) M1 fullShare g ∗ owns (c.tc : Thread nD τ) M2 fullShare x ∗ owns (c.tc : Thread nD τ) M3 fullShare y)
      ⊢ (wp frame (wpE (defs₀ (F := F)) 𝒱₀ (c.tc : Thread nD τ) none) Set.univ (cc1__tc_body i M1 h1 M2 h2 M3 h3)
          fun _ => iprop(owns (c.tc : Thread nD τ) M1 fullShare g ∗ owns (c.tc : Thread nD τ) M2 fullShare x
            ∗ owns (c.tc : Thread nD τ) M3 fullShare (fun j => digit g (x j))) : sProp 𝕄) := by
  simp only [cc1__tc_body_eq_skeleton]; unfold cc1__tc_body_skel
  simp only [k1_part1_eq_skeleton]; unfold k1_part1_skel
  unfold owns
  iintro ⟨⟨%f1, %e1, H1⟩, ⟨%f2, %e2, H2⟩, ⟨%f3, %e3, H3⟩⟩
  sl_exec
  rw [wp_ret]; imodintro
  isplitl [H1]; · iexists f1; isplitr; (· ipureintro; exact e1); iexact H1
  isplitl [H2]; · iexists f2; isplitr; (· ipureintro; exact e2); iexact H2
  iexists _; isplitr; swap; · iexact H3
  ipureintro
  refine funext fun j => ?_
  refine (View.read_writes_cons_unit_of_mem M3.view f3 (off' := ![0]) _ _ [] j j rfl (Fin.forall_fin_one.mpr (by show (j 0).val = 0 + (j 0).val; omega))).trans ?_
  rw [load_whole, e2]
  subst e1
  exact pay_eq _ x _ _ _ _ _ _ _ _ _ (load_lane _ _ 0 rfl _ _) (load_lane _ _ 1 rfl _ _) (load_lane _ _ 2 rfl _ _) (load_lane _ _ 3 rfl _ _)
    (load_lane _ _ 4 rfl _ _) (load_lane _ _ 5 rfl _ _) (load_lane _ _ 6 rfl _ _) (load_lane _ _ 7 rfl _ _) (load_lane _ _ 8 rfl _ _) j

end Body

/-! ## The proof data, at an entry valuation -/

variable (W : (d : Dev nD) → Valuation τ sig (Elt F))

/-- The block of the input fetched at point `t`, and the boundaries. -/
abbrev xblk (c : Dev nD) (t : Fin cfg1.N) : S1048576.Idx → F .f32 := ((cfg1.win 1).blk t).view.read (Elt F) (W c (Proc.devRef .tc main_arg0))
abbrev bblk (c : Dev nD) (t : Fin cfg1.N) : S16.Idx → F .f32 := ((cfg1.win 0).blk t).view.read (Elt F) (W c (Proc.devRef .tc main_v10))

/-- The proof data: the arrays as entered; after the body each input's block as fetched and the result's the classes;
    nothing carried; nothing owed. -/
def dat (c : Dev nD) : Dat τ (Elt F) (HIx 1) ℕ UU ℕ cfg1 c where
  A w := W c (Proc.devRef .tc (Pipeline.arrRef spec1 w))
  after w t := match w with
    | ⟨0, _⟩ => bblk W c t
    | ⟨1, _⟩ => xblk W c t
    | ⟨2, _⟩ => fun j => digit (bblk W c t) (xblk W c t j)
  Φ _ := iprop(emp)
  q _ := fullShare
  owed _ := 0

def pdats : (p : Fin 1) → (c : Dev nD) → Dat τ (Elt F) (HIx 1) ℕ UU ℕ (cfgs p) c := fun _ c => dat W c

theorem A_eq (c : Dev nD) (w : Fin cfg1.W) : (dat W c).A w = W c (Proc.devRef .tc (Pipeline.arrRef spec1 w)) := by
  dsimp only [dat]

theorem before_0 (c : Dev nD) (t : Fin cfg1.N) (d : (cfg1.win 0).block.Idx → Elt F (cfg1.win 0).elt) : (dat W c).before 0 t d = bblk W c t :=
  (dat W c).before_in_eq_fetched 0 rfl (fun _ => rfl) (fun _ _ _ => rfl) (fun _ => rfl) t d
theorem before_1 (c : Dev nD) (t : Fin cfg1.N) (d : (cfg1.win 1).block.Idx → Elt F (cfg1.win 1).elt) : (dat W c).before 1 t d = xblk W c t :=
  (dat W c).before_in_eq_fetched 1 rfl (fun _ => rfl) (fun _ _ _ => rfl) (fun _ => rfl) t d

theorem defs₀_row (t : Fin cfg1.N) : defs₀ (F := F) .tc cfg1.body (cfg1.bodyArgs t (cfg1.slots t)) = bodyAt1 t := rfl

theorem body_obligation (c : Dev nD) : BodyObligation (dat W c) (defs₀ (F := F)) 𝒱₀ (none : HIx 1) Set.univ := fun t => by
  rw [bigSep_W1, bigSep_W1, defs₀_row, show (dat W c).Φ t.succ = (dat W c).Φ t.castSucc from rfl,
    show (dat W c).owesAt none t.succ = (dat W c).owesAt none t.castSucc from rfl]
  iintro ⟨HΦ, HO, ⟨%d0, H0⟩, ⟨%d1, H1⟩, ⟨%d2, H2⟩⟩
  ihave H0 := (Entails.of_eq (congrArg (fun z => owns (c.tc : Thread nD τ) (st1_0 t) fullShare z) (before_0 W c t d0))) $$ H0
  ihave H1 := (Entails.of_eq (congrArg (fun z => owns (c.tc : Thread nD τ) (st1_1 t) fullShare z) (before_1 W c t d1))) $$ H1
  iapply (wp_wand_r Idealize.ShloMosaic.frame (wpE (defs₀ (F := F)) 𝒱₀ (c.tc : Thread nD τ) none) Set.univ)
  isplitl [H0 H1 H2]
  · iapply (body_run c (grid1.coords t) (st1_0 t) _ (st1_1 t) _ (st1_2 t) _ (bblk W c t) (xblk W c t) _)
    isplitl [H0]; · iexact H0
    isplitl [H1]; · iexact H1
    iexact H2
  iintro %_ ⟨H0, H1, H2⟩
  isplitl [HΦ]; · iexact HΦ
  isplitl [HO]; · iexact HO
  isplitl [H0]; · iexact H0
  isplitl [H1]; · iexact H1
  iexact H2

/-! ## The region -/

abbrev adm : (p : Fin 1) → (pcfgs (F := F) p).Adm := fun p => (cfgs p).toPCfg_adm

/-- The unscoped buffers hold the region's arrays. -/
theorem arrs_sub : Pipeline.arrRefs (τ := τ) spec1 ⊆ Pipeline.ucRefs τ sig :=
  Pipeline.arrRefs_sub_ucRefs spec1 fun w => winFacts1.arr_unscoped w

/-- The core owes nothing, and its own waits lie at the bottom. -/
theorem cut : Pipeline.LevelCut (pcfgs (F := F)) adm (none : HIx 1) (K (F := F)).L (K (F := F)).lev 0 (fun _ => 0) (fun _ : Dev nD => 0) where
  hι _ _ _ := Finset.mem_univ _
  hιb _ _ _ := le_of_eq (SparseCore.Cfg.lev_none _ _)
  hD _ _ _ h := absurd h (lt_irrefl _)

set_option backward.isDefEq.respectTransparency.types false in
/-- The region entered with the unscoped buffers at `W`. -/
def reg : Pipeline.RegionSeg (pcfgs (F := F)) adm (pdats W) (none : HIx 1) (defs₀ (F := F)) 𝒱₀ (K (F := F)).L (K (F := F)).lev 0 :=
  Pipeline.RegionSeg.ofHeldIn (pcfgs (F := F)) adm (pdats W) (none : HIx 1) (defs₀ (F := F)) 𝒱₀ (K (F := F)).L (K (F := F)).lev 0 (fun _ => 0)
    (Pipeline.ucRefs τ sig) (fun _ => iprop(emp)) (fun _ => iprop(emp)) launch1.toP rfl
    (fun c => (body_obligation W c).loose) (fun _ _ => rfl) (fun _ => rfl) (fun c => (dat W c).share_full fun _ => rfl)
    (fun c => by
      show iprop(Pipeline.scopedRest spec1 c ∗ emp) ⊢ iprop(emp)
      rw [scopedRest1_eq c]; iintro ⟨-, -⟩; iempintro)
    (fun c => by
      show iprop(emp) ⊢ iprop(Pipeline.scopedRest spec1 c ∗ emp)
      rw [scopedRest1_eq c]; iintro -; isplitl []; · iempintro
      iempintro)
    (fun _ => 0) cut (fun _ => iprop(emp)) W (fun _ _ => rfl)

set_option backward.isDefEq.respectTransparency.types false in
/-- The region is entered from the unscoped buffers at `W` and nothing owed, -/
theorem reg_pre (c : Dev nD) :
    iprop(StableHlo.held (c.tc : Thread nD τ) (Pipeline.ucRefs τ sig) (W c) ∗ ∃ Wd, owes (c.tc : Thread nD τ) 0 Wd) ⊢ (reg W).pre c := by
  have h : iprop(StableHlo.held (c.tc : Thread nD τ) (Pipeline.ucRefs τ sig) (W c) ∗ ((∃ Wd, owes (c.tc : Thread nD τ) 0 Wd) ∗ emp ∗ emp)) ⊢ (reg W).pre c := by
    unfold reg
    exact Pipeline.RegionSeg.ofHeldIn_pre (pcs := pcfgs (F := F)) (a := adm) (D := fun _ => 0) (p := 0) (S := Pipeline.ucRefs τ sig)
      (X := fun _ => iprop(emp)) (Y := fun _ => iprop(emp)) (R := fun _ => iprop(emp)) (W := W) arrs_sub c
  refine BIBase.Entails.trans ?_ h
  iintro ⟨H, HO⟩
  isplitl [H]; · iexact H
  isplitl [HO]; · iexact HO
  isplitl [] <;> iempintro

set_option backward.isDefEq.respectTransparency.types false in
/-- and left with the same set after it. -/
theorem reg_post (c : Dev nD) :
    (reg W).post c ⊢ iprop(StableHlo.held (c.tc : Thread nD τ) (Pipeline.ucRefs τ sig) (Pipeline.afterRegion (dat W c) (W c)) ∗ ∃ Wd, owes (c.tc : Thread nD τ) 0 Wd) := by
  have h : (reg W).post c ⊢ iprop(StableHlo.held (c.tc : Thread nD τ) (Pipeline.ucRefs τ sig) (Pipeline.afterRegion (dat W c) (W c)) ∗ ((∃ Wd, owes (c.tc : Thread nD τ) 0 Wd) ∗ emp ∗ emp)) := by
    unfold reg
    exact Pipeline.RegionSeg.ofHeldIn_post (pcs := pcfgs (F := F)) (a := adm) (D := fun _ => 0) (p := 0) (S := Pipeline.ucRefs τ sig)
      (X := fun _ => iprop(emp)) (Y := fun _ => iprop(emp)) (R := fun _ => iprop(emp)) (W := W) arrs_sub c
  refine h.trans ?_
  iintro ⟨H, HO, -, -⟩
  isplitl [H]; · iexact H
  iexact HO

omit [FloatOps F] in
/-- The boundaries' block is the whole vector. -/
theorem bblk_eq (c : Dev nD) (t : Fin cfg1.N) : bblk W c t = (show S16.Idx → F .f32 from W c (Proc.devRef .tc main_v10)) := by
  funext j
  show (show S16.Idx → F .f32 from W c (Proc.devRef .tc main_v10)) ((win1_0.rect t).emb j) = _
  refine congrArg _ (funext fun a => Fin.ext ?_)
  exact win1_0.rect_emb_val_of_index_zero t a (match a with | ⟨0, _⟩ => rfl) j

/-- An element of the result's block at a point, by its coordinate. -/
theorem mem_blk (t : Fin cfg1.N) (i : S8388608.Idx) :
    i ∈ ((cfg1.win 2).blk t).view.set ↔ t.val * 1048576 ≤ (i 0 : ℕ) ∧ (i 0 : ℕ) < t.val * 1048576 + 1048576 := by
  show i ∈ ((View.whole main_v12).slice (win1_2.rect t)).set ↔ _
  rw [View.set_slice_whole, Rect.mem_set_unit]
  have e : win1_2.index t 0 * win1_2.size 0 = t.val * 1048576 ∧ win1_2.xsize (grid1.coords t) 0 = 1048576 := by
    rcases fin_N1 t with rfl | rfl | rfl | rfl | rfl | rfl <;> decide +kernel
  refine ⟨fun h => ?_, fun h a => ?_⟩
  · have : win1_2.index t 0 * win1_2.size 0 ≤ (i 0 : ℕ) ∧ (i 0 : ℕ) < win1_2.index t 0 * win1_2.size 0 + win1_2.xsize (grid1.coords t) 0 := h 0
    rw [e.1, e.2] at this; exact this
  · match a with
    | ⟨0, _⟩ => show win1_2.index t 0 * win1_2.size 0 ≤ (i 0 : ℕ) ∧ (i 0 : ℕ) < win1_2.index t 0 * win1_2.size 0 + win1_2.xsize (grid1.coords t) 0
                rw [e.1, e.2]; exact h

/-- The classes of the whole input. -/
abbrev digits (c : Dev nD) : S8388608.Idx → BitVec 32 := fun i =>
  digit (show S16.Idx → F .f32 from W c (Proc.devRef .tc main_v10)) ((show S8388608.Idx → F .f32 from W c (Proc.devRef .tc main_arg0)) i)

/-- What a point writes back is its block of the classes. -/
theorem flushed_eq (c : Dev nD) (t : Fin cfg1.N) :
    (dat W c).flushed 2 t = ((cfg1.win 2).blk t).view.read (Elt F) (digits W c) := by
  show (cfg1.win 2).cut (grid1.coords t) ((dat W c).after 2 t) = _
  dsimp only [dat]
  rw [bblk_eq]
  rfl

/-- Element `i` of the first six blocks ends at its class. -/
theorem v12_val (c : Dev nD) (i : S8388608.Idx) (hi : (i 0).val < 6291456) :
    (show S8388608.Idx → BitVec 32 from (dat W c).arrAt 2 cfg1.N) i = digits W c i := by
  have hN : cfg1.N = 6 := N_1
  have ht : (i 0).val / 1048576 < cfg1.N := by omega
  refine (dat W c).arrAt_apply_of_mem 2 (digits W c) (fun t _ => flushed_eq W c t) cfg1.N ⟨(i 0).val / 1048576, ht⟩ i ht (flush1_2 _) ((mem_blk _ i).2 ?_)
  dsimp only
  omega

end Cert.Proof.Digit

end
-- ==== Proof.Launch.lean ====
/-
  @main on the TensorCore, and the program's run. The unscoped buffers are held together at one valuation throughout:
  at the launch contents, after the operations that build the boundaries' vector, after the SparseCores' call (which
  changes only its result's array), after the TensorCore's region, and after the last two operations.
-/
module

public import proofs.«01_k».proof.Proof.TileBody
public import proofs.«01_k».proof.Proof.Region

@[expose] public section

noncomputable section

namespace Cert.Proof.Digit

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-! ## The host's operations -/

/-- The operations before the SparseCores' call: nine elements gathered from the input, sorted, padded to sixteen. -/
def ops1 : List (HloOp τ sig (Elt F)) := [
  StableHlo.nullary main_c (fun i => lit0 (S9.rowMajor i)),
  StableHlo.nullary main_c_0 (constantI S_ 32 0#32),
  StableHlo.unary main_c_0 main_v0 (broadcastInDim S9 ![] bcast_S_S9 : (⟨S_, .i32⟩ : BufTy).Contents (Elt F) → (⟨S9, .i32⟩ : BufTy).Contents (Elt F)),
  StableHlo.binary main_c main_v0 main_v1 (cmpi .slt : (⟨S9, .i32⟩ : BufTy).Contents (Elt F) → (⟨S9, .i32⟩ : BufTy).Contents (Elt F) → (⟨S9, .i1⟩ : BufTy).Contents (Elt F)),
  StableHlo.nullary main_c_1 (constantI S_ 32 8388608#32),
  StableHlo.unary main_c_1 main_v2 (broadcastInDim S9 ![] bcast_S_S9 : (⟨S_, .i32⟩ : BufTy).Contents (Elt F) → (⟨S9, .i32⟩ : BufTy).Contents (Elt F)),
  StableHlo.binary main_c main_v2 main_v3 (addi : (⟨S9, .i32⟩ : BufTy).Contents (Elt F) → (⟨S9, .i32⟩ : BufTy).Contents (Elt F) → (⟨S9, .i32⟩ : BufTy).Contents (Elt F)),
  StableHlo.ternary main_v1 main_v3 main_c main_v4 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
  StableHlo.unary main_v4 main_v5 (broadcastInDim S9x1 ![0] bcast_S9_S9x1_0 : (⟨S9, .i32⟩ : BufTy).Contents (Elt F) → (⟨S9x1, .i32⟩ : BufTy).Contents (Elt F)),
  StableHlo.binary main_arg0 main_v5 main_v6 ((fun x i => Host.gather gather_S8388608_S9x1_S9_n_0_n_n_0_1_1 x i) : (⟨S8388608, .f32⟩ : BufTy).Contents (Elt F) → (⟨S9x1, .i32⟩ : BufTy).Contents (Elt F) → (⟨S9, .f32⟩ : BufTy).Contents (Elt F)),
  StableHlo.unary main_v6 main_v7 ((fun x => Host.sort S9 0 comparator_f32_d0 x) : (⟨S9, .f32⟩ : BufTy).Contents (Elt F) → (⟨S9, .f32⟩ : BufTy).Contents (Elt F)),
  StableHlo.nullary main_cst (constant S_ .f32 0x00000000#32),
  StableHlo.unary main_cst main_v8 (broadcastInDim S16 ![] bcast_S_S16 : (⟨S_, .f32⟩ : BufTy).Contents (Elt F) → (⟨S16, .f32⟩ : BufTy).Contents (Elt F)),
  StableHlo.nullary main_c_2 (constantI S_ 32 0#32),
  StableHlo.unary main_c_2 main_v9 (broadcastInDim S1 ![] bcast_S_S1 : (⟨S_, .i32⟩ : BufTy).Contents (Elt F) → (⟨S1, .i32⟩ : BufTy).Contents (Elt F)),
  StableHlo.ternary main_v8 main_v9 main_v7 main_v10 ((fun x i u => Host.scatter scatter_S16_S1_S9_0_n_0_0 (fun _ b => b) x i u) : (⟨S16, .f32⟩ : BufTy).Contents (Elt F) → (⟨S1, .i32⟩ : BufTy).Contents (Elt F) → (⟨S9, .f32⟩ : BufTy).Contents (Elt F) → (⟨S16, .f32⟩ : BufTy).Contents (Elt F))]

/-- The operations after the region: the SparseCores' part laid over the array's last quarter. -/
def ops2 : List (HloOp τ sig (Elt F)) := [
  StableHlo.nullary main_c_3 (constantI S_ 32 6291456#32),
  StableHlo.binaryIndexed main_v12 main_v11 ![main_c_3] ⟨S_, .i32⟩ main_v13 ((fun x u i => Host.dynamicUpdateSlice x u (fun k => (i k (Shape.Idx.first h_S_)).toInt) updateFits_S8388608_S2097152) : (⟨S8388608, .i32⟩ : BufTy).Contents (Elt F) → (⟨S2097152, .i32⟩ : BufTy).Contents (Elt F) → (Fin 1 → (⟨S_, .i32⟩ : BufTy).Contents (Elt F)) → (⟨S8388608, .i32⟩ : BufTy).Contents (Elt F))]

/-- @main is the first operations, the SparseCores' call, the region, and the last operations. -/
theorem main_eq (d : Dev nD) : main (F := F) d = StableHlo.seq ops1 >>= fun _ => (K (F := F)).run d 0 >>= fun _ =>
    SparseCore.liftProg (Prog.lift (.customCall (Pipeline.entry 0) ())) >>= fun _ => StableHlo.seq ops2 >>= fun _ => pure ⟨⟩ := rfl

/-- An operation over the TensorCore's references is over its unscoped ones: an operation has no scoped buffer. -/
theorem sub_uc {op : HloOp τ sig (Elt F)} (h : op.bufs ⊆ StableHlo.tcRefs τ sig) : op.bufs ⊆ Pipeline.ucRefs τ sig :=
  fun b hb => Finset.mem_filter.mpr ⟨h hb, fun h' => Bool.false_ne_true ((op.no_scoped b hb).symm.trans h')⟩

theorem ops1_sub : ∀ op ∈ ops1 (F := F), op.bufs ⊆ Pipeline.ucRefs τ sig := by
  intro op hop
  refine sub_uc ?_
  simp only [ops1, List.mem_cons, List.not_mem_nil, or_false] at hop
  rcases hop with rfl | rfl | rfl | rfl | rfl | rfl | rfl | rfl | rfl | rfl | rfl | rfl | rfl | rfl | rfl | rfl
  all_goals first
    | apply StableHlo.nullary_bufs_sub | apply StableHlo.unary_bufs_sub | apply StableHlo.binary_bufs_sub
    | apply StableHlo.ternary_bufs_sub
theorem ops1_fresh : ∀ op ∈ ops1 (F := F), op.fresh = ∅ := by
  intro op hop
  simp only [ops1, List.mem_cons, List.not_mem_nil, or_false] at hop
  rcases hop with rfl | rfl | rfl | rfl | rfl | rfl | rfl | rfl | rfl | rfl | rfl | rfl | rfl | rfl | rfl | rfl <;> rfl
theorem ops2_sub : ∀ op ∈ ops2 (F := F), op.bufs ⊆ Pipeline.ucRefs τ sig := by
  intro op hop
  refine sub_uc ?_
  simp only [ops2, List.mem_cons, List.not_mem_nil, or_false] at hop
  rcases hop with rfl | rfl
  · apply StableHlo.nullary_bufs_sub
  · apply StableHlo.binaryIndexed_bufs_sub
theorem ops2_fresh : ∀ op ∈ ops2 (F := F), op.fresh = ∅ := by
  intro op hop
  simp only [ops2, List.mem_cons, List.not_mem_nil, or_false] at hop
  rcases hop with rfl | rfl <;> rfl

/-! ## The valuations -/

variable (m : (ℓ : Loc nD τ sig) → Buf (Elt F) ℓ) (ρ : Dev nD → PrngReg)

/-- The buffers as launched, -/
def V0 (d : Dev nD) : Valuation τ sig (Elt F) := fun b => m (d, b)
/-- with the boundaries' vector built, -/
def V1 (d : Dev nD) : Valuation τ sig (Elt F) := StableHlo.after ops1 (V0 m d)
/-- the input, the boundaries and the SparseCores' array at the call, -/
abbrev Xm (d : Dev nD) : Buf (Elt F) (xLoc d) := V1 m d (Proc.devRef .tc main_arg0)
abbrev Bm (d : Dev nD) : Buf (Elt F) (bLoc d) := V1 m d (Proc.devRef .tc main_v10)
abbrev Om (d : Dev nD) : Buf (Elt F) (oLoc d) := V1 m d (Proc.devRef .tc main_v11)
/-- after the call, -/
def V2 (d : Dev nD) : Valuation τ sig (Elt F) := Function.update (V1 m d) (Proc.devRef .tc main_v11) (outF (Xm m) (Bm m) d)
/-- after the region, -/
def V3 (d : Dev nD) : Valuation τ sig (Elt F) := Pipeline.afterRegion (dat (V2 m) d) (V2 m d)
/-- and at the end. -/
def V4 (d : Dev nD) : Valuation τ sig (Elt F) := StableHlo.after ops2 (V3 m d)

theorem V2_ne (d : Dev nD) {r : Ref sig .tc} (h : r ≠ main_v11) : V2 m d (Proc.devRef .tc r) = V1 m d (Proc.devRef .tc r) :=
  Function.update_of_ne (StableHlo.devRef_ne_of_ne h) _ _
theorem V2_v11 (d : Dev nD) : V2 m d (Proc.devRef .tc main_v11) = outF (Xm m) (Bm m) d := Function.update_self _ _ _

/-! ## The call's three arrays -/

/-- The input, the boundaries' vector and the SparseCores' array. -/
def trio : Finset (DevRef τ sig) := {Proc.devRef .tc main_arg0, Proc.devRef .tc main_v10, Proc.devRef .tc main_v11}

theorem trio_sub : trio ⊆ Pipeline.ucRefs τ sig := by
  intro b hb
  simp only [trio, Finset.mem_insert, Finset.mem_singleton] at hb
  rcases hb with rfl | rfl | rfl <;> exact Finset.mem_filter.mpr ⟨StableHlo.devRef_mem_tcRefs _, by decide⟩

theorem held_trio (d : Dev nD) (W : Valuation τ sig (Elt F)) :
    (StableHlo.held (d.tc : Thread nD τ) trio W : sProp 𝕄)
      = iprop((xLoc d ↦{fullShare} W (Proc.devRef .tc main_arg0)) ∗ (bLoc d ↦{fullShare} W (Proc.devRef .tc main_v10)) ∗ oLoc d ↦{fullShare} W (Proc.devRef .tc main_v11)) := by
  unfold StableHlo.held trio
  rw [SparseCore.bigSep_insert' (by decide), SparseCore.bigSep_insert' (by decide), bigSep_singleton]

theorem rest_eq (d : Dev nD) :
    (StableHlo.held (d.tc : Thread nD τ) (Pipeline.ucRefs τ sig \ trio) (V1 m d) : sProp 𝕄)
      = StableHlo.held (d.tc : Thread nD τ) (Pipeline.ucRefs τ sig \ trio) (V2 m d) := by
  refine StableHlo.held_congr _ fun b hb => ?_
  refine (Function.update_of_ne (fun e => (Finset.mem_sdiff.mp hb).2 ?_) _ _).symm
  rw [e]; simp [trio]

/-- The two cores' blocks are apart, -/
theorem cores_disjoint : ∀ c ∈ (Finset.univ : Finset (Fin 2)), ∀ c' ∈ (Finset.univ : Finset (Fin 2)), c ≠ c' → Disjoint (oCore c) (oCore c') := by
  intro c _ c' _ h
  rw [Finset.disjoint_left]
  intro i hi hi'
  obtain ⟨s, -, hs⟩ := Finset.mem_biUnion.mp hi
  obtain ⟨s', -, hs'⟩ := Finset.mem_biUnion.mp hi'
  rw [mem_oSet] at hs hs'
  exact h (Fin.ext (by omega))
/-- and together they are the array. -/
theorem cores_cover : (Finset.univ : Finset (Fin 2)).biUnion oCore = (Finset.univ : Finset S2097152.Idx) := by
  refine Finset.eq_univ_iff_forall.mpr fun i => ?_
  have hi : (i 0).val < 2097152 := (i 0).isLt
  refine Finset.mem_biUnion.mpr ⟨⟨(i 0).val / 65536 % 2, by omega⟩, Finset.mem_univ _, Finset.mem_biUnion.mpr ⟨⟨(i 0).val / 65536 / 2, by omega⟩, Finset.mem_univ _, ?_⟩⟩
  rw [mem_oSet]
  dsimp only
  omega

theorem oPts_cores (d : Dev nD) (f : Buf (Elt F) (oLoc d)) :
    (oPts d Finset.univ f : sProp 𝕄) = bigSep Finset.univ fun c : Fin 2 => oPts d (oCore c) f :=
  (congrArg (fun I => (oPts d I f : sProp 𝕄)) cores_cover.symm).trans (pointsTo_biUnion Finset.univ (ℓ := oLoc d) oCore cores_disjoint)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call leaves with the TensorCore: the input's and the boundaries' remaining shares. -/
abbrev kept (d : Dev nD) : sProp 𝕄 := iprop(xPts (Xm m) d (Transfers.shareDrop fullShare 2) ∗ bPts (Bm m) d (Transfers.shareDrop fullShare 2))

/-- The three arrays give the call's pieces, -/
theorem st_split (d : Dev nD) :
    (StableHlo.held (d.tc : Thread nD τ) trio (V1 m d) : sProp 𝕄)
      ⊢ iprop(kept m d ∗ bigSep Finset.univ fun c : Fin ((K (F := F)).nCore 0) => (P (Xm m) (Bm m) (Om m)).st 0 d c) := by
  rw [held_trio]
  show _ ⊢ iprop(kept m d ∗ bigSep Finset.univ fun c : Fin ((K (F := F)).nCore 0) =>
    iprop(xPts (Xm m) d (cq (Fin.cast nCore_zero c)) ∗ bPts (Bm m) d (cq (Fin.cast nCore_zero c)) ∗ oPts d (oCore (Fin.cast nCore_zero c)) (Om m d)))
  rw [bigSep_cores (F := F) (fun c => iprop(xPts (Xm m) d (cq c) ∗ bPts (Bm m) d (cq c) ∗ oPts d (oCore c) (Om m d))), bigSep_sep', bigSep_sep', ← oPts_cores]
  iintro ⟨Hx, Hb, Ho⟩
  ihave Hx := (Transfers.pointsTo_toks fullShare 2).1 $$ Hx
  icases Hx with ⟨Hxd, Hx⟩
  ihave Hb := (Transfers.pointsTo_toks fullShare 2).1 $$ Hb
  icases Hb with ⟨Hbd, Hb⟩
  isplitl [Hxd Hbd]
  · isplitl [Hxd] <;> iassumption
  isplitl [Hx]; · iexact Hx
  isplitl [Hb]; · iexact Hb
  iexact Ho

/-- and the pieces as they come back give the three arrays, the SparseCores' at the classes. -/
theorem dn_join (d : Dev nD) :
    iprop(kept m d ∗ bigSep Finset.univ fun c : Fin ((K (F := F)).nCore 0) => (P (Xm m) (Bm m) (Om m)).dn 0 d c)
      ⊢ (StableHlo.held (d.tc : Thread nD τ) trio (V2 m d) : sProp 𝕄) := by
  rw [held_trio, V2_v11, V2_ne m d (r := main_arg0) (by decide), V2_ne m d (r := main_v10) (by decide)]
  show iprop(kept m d ∗ bigSep Finset.univ fun c : Fin ((K (F := F)).nCore 0) =>
    iprop(xPts (Xm m) d (cq (Fin.cast nCore_zero c)) ∗ bPts (Bm m) d (cq (Fin.cast nCore_zero c)) ∗ oPts d (oCore (Fin.cast nCore_zero c)) (outF (Xm m) (Bm m) d))) ⊢ _
  rw [bigSep_cores (F := F) (fun c => iprop(xPts (Xm m) d (cq c) ∗ bPts (Bm m) d (cq c) ∗ oPts d (oCore c) (outF (Xm m) (Bm m) d))), bigSep_sep', bigSep_sep', ← oPts_cores]
  iintro ⟨⟨Hxd, Hbd⟩, Hx, Hb, Ho⟩
  isplitl [Hx Hxd]
  · iapply (Transfers.pointsTo_toks fullShare 2).2
    isplitl [Hxd] <;> iassumption
  isplitl [Hb Hbd]
  · iapply (Transfers.pointsTo_toks fullShare 2).2
    isplitl [Hbd] <;> iassumption
  iexact Ho

/-! ## The ghost state's launch element -/

def u₀ : UU := (initOf (K (F := F)).hsCells (K (F := F)).hsToks, (initOf (Pipeline.cells cfgs cellOf_inj) (Pipeline.launchToks cfgs cellOf_inj), 1))

/-- The region's ghost state on a device. -/
abbrev G (d : Dev nD) : sProp 𝕄 := iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem ghost : (BI.own (EP (F := F) (initOf (Pipeline.cells cfgs cellOf_inj) (Pipeline.launchToks cfgs cellOf_inj))) : sProp 𝕄)
    ⊢ |==> bigSep Finset.univ fun d : Dev nD => G (F := F) d := by
  refine (Pipeline.fund_ghost cfgs (EP (F := F)) cellOf_inj).trans (bupd_mono ?_)
  rw [bigSep_sep']
  refine BIClass.sep_mono (Entails.of_eq (bigSep_congr fun d _ => ?_)) (Entails.of_eq (bigSep_congr fun d _ => ?_)) <;>
    exact bigSep_univ_of_subsingleton (0 : Fin 1)

theorem hu₀ (X : (d : Dev nD) → Buf (Elt F) (xLoc d)) (B : (d : Dev nD) → Buf (Elt F) (bLoc d)) (O₀ : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X B O₀).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HP⟩
  ihave HP := (show (BI.own ((embR : Emb (UP × Counters) 𝕄) (initOf (Pipeline.cells cfgs cellOf_inj) (Pipeline.launchToks cfgs cellOf_inj), 1)) : sProp 𝕄)
    ⊢ BI.own (EP (F := F) (initOf (Pipeline.cells cfgs cellOf_inj) (Pipeline.launchToks cfgs cellOf_inj))) from .rfl) $$ HP
  imod (ghost (F := F)) $$ HP with HG
  imodintro
  isplitl [HH]; · iexact HH
  isplitl [HG]; · iexact HG
  rw [show (bigSep Finset.univ fun thr : Thread nD τ => bigSep Finset.univ fun q : Fin 1 => (P (F := F) X B O₀).x q thr) = bigSep Finset.univ fun _ => iprop(emp) from
    bigSep_congr fun _ _ => bigSep_univ_of_subsingleton (0 : Fin 1), bigSep_emp']
  iempintro

/-! ## @main -/

/-- After the one call the TensorCore owes nothing, -/
theorem tc_open (d : Dev nD) : ((K (F := F)).tcSt (EH (F := F)) d 1 : sProp 𝕄)
    ⊢ iprop((∃ W, owes (d.tc : Thread nD τ) 0 W) ∗ ((∃ W, owes (d.tc : Thread nD τ) 0 W) -∗ (K (F := F)).tcSt (EH (F := F)) d 1)) := by
  unfold SparseCore.Cfg.tcSt
  rw [(K (F := F)).Otc_end d (n := 1) le_rfl]
  iintro ⟨⟨%W, %hW, HO⟩, Hrest⟩
  isplitl [HO]; · iexists W; iexact HO
  iintro ⟨%W', HO⟩
  isplitl [HO]
  · iexists W'
    isplitr
    · ipureintro
      intro p _
      match p.2 with
      | none => exact Nat.zero_le _
      | some q => exact le_trans ((K (F := F)).lev_some_le _ q) (by have := q.isLt; show 8 * q.val + 7 ≤ 8; omega)
    iexact HO
  iexact Hrest

/-- The region, from the unscoped buffers as the call leaves them, to the same set after it. -/
theorem region_wp [∀ e, Nonempty (Elt F e)] (d : Dev nD) (Q : PUnit → sProp 𝕄) :
    iprop((iprop(boundary (d.tc : Thread nD τ) ∗ StableHlo.held (d.tc : Thread nD τ) (Pipeline.ucRefs τ sig) (V3 m d) ∗ ∃ W, owes (d.tc : Thread nD τ) 0 W) -∗ Q ⟨⟩)
        ∗ boundary (d.tc : Thread nD τ) ∗ StableHlo.held (d.tc : Thread nD τ) (Pipeline.ucRefs τ sig) (V2 m d) ∗ (∃ W, owes (d.tc : Thread nD τ) 0 W)
        ∗ levAts (K (F := F)).L (K (F := F)).lev ∗ G (F := F) d)
      ⊢ wp frame (wpE (D (F := F)) 𝒱 (d.tc : Thread nD τ) none) Set.univ (Prog.lift (.customCall (Pipeline.entry 0) ())) Q := by
  iintro ⟨Hk, Hb, Hh, HO, Hl, HG⟩
  iapply (Pipeline.RegionSeg.wp (pcfgs (F := F)) adm (pdats (V2 m)) (none : HIx 1) cellOf_inj (EP (F := F)) (defs₀ (F := F)) 𝒱₀ (K (F := F)).L (K (F := F)).lev
    (reg (V2 m)) d none (fun u h => nomatch h))
  isplitl [Hk]
  · iintro ⟨Hb, Hp⟩
    rw [wp_ret]
    imodintro
    ihave Hp := (reg_post (V2 m) d) $$ Hp
    icases Hp with ⟨Hh, HO⟩
    iapply Hk
    isplitl [Hb]; · iexact Hb
    isplitl [Hh]; · iexact Hh
    iexact HO
  isplitl [Hb]; · iexact Hb
  isplitl [Hh HO]
  · iapply (reg_pre (V2 m) d)
    isplitl [Hh] <;> iassumption
  isplitl [Hl]; · iexact Hl
  iexact HG

theorem hmain [∀ e, Nonempty (Elt F e)] (κ : GSem nD τ sig → ℕ) (d : Dev nD) :
    iprop((K (F := F)).ctx EH (P (Xm m) (Bm m) (Om m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ StableHlo.held (d.tc : Thread nD τ) (Pipeline.ucRefs τ sig) (V4 m d) ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (Pipeline.ucRefs τ sig) (V0 m d) from
    Pipeline.unscopedBufs_held d (V0 m d)]
  iintro ⟨#Hctx, Hst, ⟨Hb, Hh, Hts, -⟩, HG⟩
  iapply (StableHlo.wp_seq 𝒱 none Set.univ d (Pipeline.ucRefs τ sig) _ ops1 ops1_sub ops1_fresh (V0 m d)) $$ [Hb Hh]
  · isplitl [Hb] <;> iassumption
  iintro ⟨Hb, Hh⟩
  ihave Hh := (show (StableHlo.held (d.tc : Thread nD τ) (Pipeline.ucRefs τ sig) (StableHlo.after ops1 (V0 m d)) : sProp 𝕄)
    ⊢ iprop(StableHlo.held (d.tc : Thread nD τ) trio (V1 m d) ∗ StableHlo.held (d.tc : Thread nD τ) (Pipeline.ucRefs τ sig \ trio) (V1 m d))
    from Entails.of_eq (StableHlo.held_sub_split (d.tc : Thread nD τ) trio_sub (V1 m d))) $$ Hh
  icases Hh with ⟨Ht, Hr⟩
  ihave Hr := (Entails.of_eq (rest_eq m d)) $$ Hr
  ihave Ht := (st_split m d) $$ Ht
  icases Ht with ⟨Hkept, Hcall⟩
  rw [wp_bind]
  iapply ((K (F := F)).wp_run (D (F := F)) 𝒱 (EH := EH) (P := P (Xm m) (Bm m) (Om m)) κ d 0) $$ [Hst Hcall Hkept Hr Hb Hts HG]
  isplitr; · iexact Hctx
  isplitl [Hst]; · iexact Hst
  isplitl [Hcall]; · iexact Hcall
  iintro ⟨Hst, Hdn⟩
  ihave Ht := (dn_join m d) $$ [Hkept Hdn]
  · isplitl [Hkept] <;> iassumption
  ihave Hh := (Entails.of_eq (StableHlo.held_sub_split (d.tc : Thread nD τ) trio_sub (V2 m d)).symm) $$ [Ht Hr]
  · isplitl [Ht] <;> iassumption
  ihave Hst := (show ((K (F := F)).tcSt (EH (F := F)) d ((0 : Fin 1).val + 1) : sProp 𝕄)
    ⊢ iprop((∃ W, owes (d.tc : Thread nD τ) 0 W) ∗ ((∃ W, owes (d.tc : Thread nD τ) 0 W) -∗ (K (F := F)).tcSt (EH (F := F)) d 1)) from tc_open (F := F) d) $$ Hst
  icases Hst with ⟨HO, Hst⟩
  ihave Hlev := (SparseCore.Cfg.ctx_levAts κ) $$ Hctx
  rw [wp_bind]
  iapply ((K (F := F)).wp_liftProg (D (F := F)) 𝒱 (d.tc : Thread nD τ) Set.univ none)
  iapply (region_wp m d)
  isplitr [Hb Hh HO Hlev HG]
  · iintro ⟨Hb, Hh, HO⟩
    ihave Hst := Hst $$ HO
    iapply (StableHlo.wp_seq 𝒱 none Set.univ d (Pipeline.ucRefs τ sig) _ ops2 ops2_sub ops2_fresh (V3 m d)) $$ [Hb Hh]
    · isplitl [Hb] <;> iassumption
    iintro ⟨Hb, Hh⟩
    rw [wp_pure]
    imodintro
    isplitl [Hst]; · iexact Hst
    isplitl [Hh]; · iexact Hh
    isplitl [Hb] <;> iassumption
  isplitl [Hb]; · iexact Hb
  isplitl [Hh]; · iexact Hh
  isplitl [HO]; · iexact HO
  isplitl [Hlev]; · iexact Hlev
  iexact HG

/-! ## The run -/

/-- The input's array and the result's. -/
def pair : Finset (DevRef τ sig) := {Proc.devRef .tc main_arg0, Proc.devRef .tc main_v13}
theorem pair_sub : pair ⊆ Pipeline.ucRefs τ sig := by
  intro b hb
  simp only [pair, Finset.mem_insert, Finset.mem_singleton] at hb
  rcases hb with rfl | rfl <;> exact Finset.mem_filter.mpr ⟨StableHlo.devRef_mem_tcRefs _, by decide⟩

abbrev rLoc (d : Dev nD) : Loc nD τ sig := (SparseCore.T d).loc main_v13

def fq (d : Dev nD) (s' : Phys nD τ sig (Elt F)) : Prop :=
  s'.mem.mem (xLoc d) = V4 m d (Proc.devRef .tc main_arg0) ∧ s'.mem.mem (rLoc d) = V4 m d (Proc.devRef .tc main_v13)

/-- The final memory holds the two arrays at the last valuation. -/
theorem hfin (d : Dev nD) (s' : Phys nD τ sig (Elt F)) :
    iprop(StableHlo.held (d.tc : Thread nD τ) (Pipeline.ucRefs τ sig) (V4 m d) ∗ SI s') ⊢ (⌜fq m d s'⌝ : sProp 𝕄) := by
  rw [StableHlo.held_sub_split (d.tc : Thread nD τ) pair_sub (V4 m d),
    show (StableHlo.held (d.tc : Thread nD τ) pair (V4 m d) : sProp 𝕄)
      = iprop((xLoc d ↦{fullShare} V4 m d (Proc.devRef .tc main_arg0)) ∗ rLoc d ↦{fullShare} V4 m d (Proc.devRef .tc main_v13)) from by
      unfold StableHlo.held pair; rw [SparseCore.bigSep_insert' (by decide), bigSep_singleton]]
  iintro ⟨⟨⟨Hi, Hx⟩, -⟩, HSI⟩
  ihave H := (persistent_entails_right (SI_pointsTo_agree (st := s') (ℓ := xLoc d) (I := Finset.univ) (q := fullShare) (f := V4 m d (Proc.devRef .tc main_arg0)))) $$ [HSI Hi]
  · isplitl [HSI] <;> iassumption
  icases H with ⟨%h1, HSI, -⟩
  ihave H := (SI_pointsTo_agree (st := s') (ℓ := rLoc d) (I := Finset.univ) (q := fullShare) (f := V4 m d (Proc.devRef .tc main_v13))) $$ [HSI Hx]
  · isplitl [HSI] <;> iassumption
  icases H with %h2
  ipureintro
  exact ⟨funext fun (i : Idx (xLoc d)) => h1 i (by simp), funext fun (i : Idx (rLoc d)) => h2 i (by simp)⟩

def QC : PUnit × MemSt nD τ sig (Elt F) → Prop := fun r =>
  (∀ d : Dev nD, r.2.mem (xLoc d) = V4 m d (Proc.devRef .tc main_arg0) ∧ r.2.mem (rLoc d) = V4 m d (Proc.devRef .tc main_v13)) ∧ r.2.sem = fun _ => 0

/-- The program runs to its end with the input's and the result's arrays at the last valuation and every semaphore at zero. -/
theorem run_V4 [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xm m) (Bm m) (Om m)) (A := ∅) scFacts v₀
    (fun q hq => match q with | 0 => nomatch hq)
    (fun q _ => match q with | 0 => tileObl (Xm m) (Bm m) (Om m) scFacts)
    (fun q _ => match q with | 0 => SparseCore.Cfg.VecSplit.of_plain (vecSplit (Xm m) (Bm m) (Om m)))
    m ρ main (G (F := F)) (fun d => StableHlo.held (d.tc : Thread nD τ) (Pipeline.ucRefs τ sig) (V4 m d)) (u₀ (F := F))
    (sep_elim_left.trans (hu₀ (Xm m) (Bm m) (Om m))) (hmain m ρ) (fq m) (hfin m) (QC m) (fun _ h hz => ⟨h, hz⟩)

/-! ## The input is unchanged -/

theorem V1_arg0 (d : Dev nD) : V1 m d (Proc.devRef .tc main_arg0) = m (xLoc d) := by
  unfold V1
  rw [StableHlo.after_of_forall_not_mem]
  · rfl
  · intro op hop
    simp only [ops1, List.mem_cons, List.not_mem_nil, or_false] at hop
    rcases hop with rfl | rfl | rfl | rfl | rfl | rfl | rfl | rfl | rfl | rfl | rfl | rfl | rfl | rfl | rfl | rfl <;>
      exact fun h => absurd (Finset.mem_singleton.mp h) (StableHlo.devRef_ne_of_ne (by decide))
theorem V3_arg0 (d : Dev nD) : V3 m d (Proc.devRef .tc main_arg0) = m (xLoc d) :=
  (Pipeline.afterRegion_keeps (dat (V2 m) d) (V2 m d) winFacts1.arr_inj (A_eq (V2 m) d) main_arg0 (by decide)).trans
    ((V2_ne m d (by decide)).trans (V1_arg0 m d))
theorem V4_arg0 (d : Dev nD) : V4 m d (Proc.devRef .tc main_arg0) = m (xLoc d) := by
  unfold V4
  rw [StableHlo.after_of_forall_not_mem]
  · exact V3_arg0 m d
  · intro op hop
    simp only [ops2, List.mem_cons, List.not_mem_nil, or_false] at hop
    rcases hop with rfl | rfl <;> exact fun h => absurd (Finset.mem_singleton.mp h) (StableHlo.devRef_ne_of_ne (by decide))

end Cert.Proof.Digit

end
-- ==== Proof.Frames.lean ====
/-
  The three frames: each program runs to its end from any memory, leaves its argument as it was, and every semaphore
  reads zero when it is done.
-/
module

public import proofs.«01_k».proof.Proof.Launch
public import proofs.«01_k».proof.Proof.Gen.ReferenceIdeal.Run
public import proofs.«01_k».proof.Proof.Gen.Kernel
public import proofs.«01_k».proof.Defs

@[expose] public section

noncomputable section

namespace Cert.Proof.Digit

open Idealize.ShloMosaic Idealize.SL.Sem

/-- The kernel's program over any float values that have elements of every type. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).1.trans (V4_arg0 m c), h.2⟩) (run_V4 m ρ)

/-- The kernel's program at the ideal values. -/
theorem frame_ideal : Cert.quiescent_KernelIdeal := fun m ρ _ => frame_any m ρ

/-! ## The same program at the bit patterns -/

section same
variable {F : FTy → Type} [FloatOps F]

/-- The two programs' kernels are one table, processor by processor, -/
theorem kernels_same : (Cert.Kernel.defs₀ (F := F)) = Cert.KernelIdeal.defs₀ := by
  funext p ℓ a
  rcases p with _ | c | ⟨c, s⟩
  · match ℓ, a with
    | 0, a => rfl
    | 1, (t, s) => rfl
  · match ℓ, a with
    | 0, a => rfl
    | 1, a => rfl
  · match ℓ, a with
    | 0, a => rfl
    | 1, a => rfl
/-- so their bodies are one table, -/
theorem bodies_same : (Cert.Kernel.defs (F := F)) = Cert.KernelIdeal.defs :=
  congrArg (fun D => Cert.KernelIdeal.sc.defs (Pipeline.defs Cert.KernelIdeal.pcfgs D)) kernels_same
set_option maxHeartbeats 4000000 in
/-- and their threads are the same text. -/
theorem threads_same : (Cert.Kernel.threads (F := F)) = Cert.KernelIdeal.threads := rfl

end same

/-- The frame, for a table of bodies that is the ideal program's. -/
theorem frame_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    {D : Defs Cert.KernelIdeal.nD Cert.KernelIdeal.τ Cert.KernelIdeal.sig (Elt F) _} (hD : D = Cert.KernelIdeal.defs) {P : _}
    (hP : P = Cert.KernelIdeal.threads) :
    θ_run D P ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) := by
  subst hD hP
  exact frame_any m ρ

/-- The kernel's program at the bit patterns: its text is the ideal program's, so the run is the same theorem. -/
theorem frame_bits : Cert.quiescent_Kernel := fun m ρ _ => frame_of m ρ bodies_same threads_same

/-- The reference, which declares no semaphore at all. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

end Cert.Proof.Digit

end
-- ==== Proof.Value.lean ====
/-
  What the run leaves in the result, element by element: every element ends at the class of the input's element, by the
  nine sorted boundaries. The region wrote the first three quarters, the SparseCores the last, and the last operation
  laid the second over the first.
-/
module

public import proofs.«01_k».proof.Proof.Launch
public import Idealize.ShloMosaic.Lib.Pointwise.ShapeOpsCore
public import Idealize.ShloMosaic.Lib.Routing.OpsSet

@[expose] public section

noncomputable section

namespace Cert.Proof.Digit

open Cert.KernelIdeal Cert.KernelIdeal.Gen

open Idealize.ShloMosaic Idealize.ShloMosaic.StableHlo

variable {F : FTy → Type} [FloatOps F]

variable (m : (ℓ : Loc nD τ sig) → Buf (Elt F) ℓ)

/-! ## The last operation -/

/-- The result is the SparseCores' array laid over the region's, from element 6291456 on. -/
theorem V4_v13 (d : Dev nD) : (show S8388608.Idx → BitVec 32 from V4 m d (Proc.devRef .tc main_v13))
    = Host.dynamicUpdateSlice (show S8388608.Idx → BitVec 32 from V3 m d (Proc.devRef .tc main_v12))
        (show S2097152.Idx → BitVec 32 from V3 m d (Proc.devRef .tc main_v11)) (fun _ => (6291456#32 : BitVec 32).toInt) updateFits_S8388608_S2097152 := by
  unfold V4
  generalize V3 m d = W
  simp only [ops2]
  rw [after_cons, after_cons, after_nil, binaryIndexed_result, nullary_result_ne main_c_3 _ _ _ (show main_v12 ≠ main_c_3 by decide),
    nullary_result_ne main_c_3 _ _ _ (show main_v11 ≠ main_c_3 by decide)]
  congr 1
  funext k
  match k with
  | ⟨0, _⟩ => rfl

/-- The SparseCores' array is not the region's, so the region left it alone. -/
theorem V3_v11 (d : Dev nD) : V3 m d (Proc.devRef .tc main_v11) = outF (Xm m) (Bm m) d :=
  (Pipeline.afterRegion_of_not_arr (dat (V2 m) d) (V2 m d) (b := main_v11) (by decide)).trans (V2_v11 m d)

/-- The region's array, below element 6291456. -/
theorem V3_v12 (d : Dev nD) (i : S8388608.Idx) (hi : (i 0).val < 6291456) :
    (show S8388608.Idx → BitVec 32 from V3 m d (Proc.devRef .tc main_v12)) i
      = digit (show S16.Idx → F .f32 from Bm m d) ((show S8388608.Idx → F .f32 from m (xLoc d)) i) := by
  have h : V3 m d (Proc.devRef .tc main_v12) = (dat (V2 m) d).arrAt 2 cfg1.N :=
    Pipeline.afterRegion_arr (dat (V2 m) d) (V2 m d) winFacts1.arr_inj 2
  have h10 : V2 m d (Proc.devRef .tc main_v10) = Bm m d := V2_ne m d (by decide)
  have h0 : V2 m d (Proc.devRef .tc main_arg0) = m (xLoc d) := (V2_ne m d (by decide)).trans (V1_arg0 m d)
  refine (congrFun h i).trans ((v12_val (V2 m) d i hi).trans ?_)
  unfold digits
  rw [h10, h0]

/-- Every element of the result is the class of the input's element. -/
theorem V4_val (d : Dev nD) (i : S8388608.Idx) :
    (show S8388608.Idx → BitVec 32 from V4 m d (Proc.devRef .tc main_v13)) i
      = digit (show S16.Idx → F .f32 from Bm m d) ((show S8388608.Idx → F .f32 from m (xLoc d)) i) := by
  have hi : (i 0).val < 8388608 := (i 0).isLt
  have hc : Host.clampedStart S8388608 S2097152 updateFits_S8388608_S2097152.1 (fun _ => (6291456#32 : BitVec 32).toInt) 0 = 6291456 :=
    Host.clampedStart_of_le _ _ _ _ (by decide) (by decide)
  rw [V4_v13, Host.dynamicUpdateSlice_apply]
  by_cases h : (i 0).val < 6291456
  · rw [dif_neg (fun hin => by have := (hin 0).1; rw [hc] at this; omega)]
    exact V3_v12 m d i h
  · rw [dif_pos]
    · rw [V3_v11]
      unfold outF
      have hx : Xm m d = m (xLoc d) := V1_arg0 m d
      dsimp only
      rw [hx]
      congr 2
      funext a
      match a with
      | ⟨0, _⟩ =>
        refine Fin.ext ?_
        show 6291456 + ((i 0).val - Host.clampedStart S8388608 S2097152 updateFits_S8388608_S2097152.1 (fun _ => (6291456#32 : BitVec 32).toInt) 0) = (i 0).val
        rw [hc]; omega
    · intro a
      match a with
      | ⟨0, _⟩ =>
        have e : S2097152.size (Fin.cast updateFits_S8388608_S2097152.1.symm 0) = 2097152 := rfl
        exact ⟨hc.le.trans (show 6291456 ≤ (i 0).val by omega), by
          show (i 0).val < Host.clampedStart S8388608 S2097152 updateFits_S8388608_S2097152.1 (fun _ => (6291456#32 : BitVec 32).toInt) 0 + 2097152
          rw [hc]; omega⟩

/-! ## The boundaries -/

/-- The nine boundaries: the elements of the input at nine fixed places, in order. -/
def bounds (x : S8388608.Idx → F .f32) : S9.Idx → F .f32 :=
  Host.sort S9 0 comparator_f32_d0 (Host.gather gather_S8388608_S9x1_S9_n_0_n_n_0_1_1 x
    (broadcastInDim S9x1 ![0] bcast_S9_S9x1_0
      (select (cmpi .slt ((fun i => lit0 (S9.rowMajor i))) (broadcastInDim S9 ![] bcast_S_S9 (constantI S_ 32 0#32)))
        (addi ((fun i => lit0 (S9.rowMajor i))) (broadcastInDim S9 ![] bcast_S_S9 (constantI S_ 32 8388608#32)))
        ((fun i => lit0 (S9.rowMajor i))))))

/-- The vector the kernels read is the boundaries, written over sixteen zeros from the first. -/
theorem Bm_eq (d : Dev nD) : (show S16.Idx → F .f32 from Bm m d)
    = Host.scatter scatter_S16_S1_S9_0_n_0_0 (fun _ b => b) (broadcastInDim S16 ![] bcast_S_S16 (constant S_ .f32 0x00000000#32))
        (broadcastInDim S1 ![] bcast_S_S1 (constantI S_ 32 0#32)) (bounds (show S8388608.Idx → F .f32 from m (xLoc d))) := by
  unfold Bm V1
  simp only [ops1]
  after_results <;> rfl

/-- Boundary `k` is written to lane `k`. -/
theorem lands (k : S9.Idx) : scatter_S16_S1_S9_0_n_0_0.resultIdx? k (broadcastInDim S1 ![] bcast_S_S1 (constantI S_ 32 0#32))
    = some (lane ⟨(k 0).val, (k 0).isLt.trans (by decide)⟩) := by
  have hk : (k 0).val < 9 := (k 0).isLt
  have hs : ∀ a, scatter_S16_S1_S9_0_n_0_0.start k (broadcastInDim S1 ![] bcast_S_S1 (constantI S_ 32 0#32)) a = 0 := by
    intro a
    match a with
    | ⟨0, _⟩ => rfl
  have hw : scatter_S16_S1_S9_0_n_0_0.window k 0 = (k 0).val := rfl
  unfold ScatterDims.resultIdx?
  rw [dif_pos]
  · congr 1
    funext a
    match a with
    | ⟨0, _⟩ =>
      refine Fin.ext ?_
      show (scatter_S16_S1_S9_0_n_0_0.start k (broadcastInDim S1 ![] bcast_S_S1 (constantI S_ 32 0#32)) 0 + (scatter_S16_S1_S9_0_n_0_0.window k 0 : Nat)).toNat = (k 0).val
      rw [hs, hw]; omega
  · intro a
    match a with
    | ⟨0, _⟩ =>
      show 0 ≤ scatter_S16_S1_S9_0_n_0_0.start k (broadcastInDim S1 ![] bcast_S_S1 (constantI S_ 32 0#32)) 0 + (scatter_S16_S1_S9_0_n_0_0.window k 0 : Nat)
        ∧ scatter_S16_S1_S9_0_n_0_0.start k (broadcastInDim S1 ![] bcast_S_S1 (constantI S_ 32 0#32)) 0 + (scatter_S16_S1_S9_0_n_0_0.window k 0 : Nat) < (16 : Nat)
      rw [hs, hw]; omega

/-- Index `j` of the nine boundaries. -/
abbrev nine (j : Fin 9) : S9.Idx := fun | 0 => j | ⟨_ + 1, h⟩ => absurd h (Nat.not_lt.2 (Nat.le_add_left _ _))

/-- So the vector's lane `j` is boundary `j`. -/
theorem Bm_lane (d : Dev nD) (j : Fin 9) : (show S16.Idx → F .f32 from Bm m d) (lane (j.castLE (by decide)))
    = bounds (show S8388608.Idx → F .f32 from m (xLoc d)) (nine j) := by
  rw [Bm_eq]
  refine Routing.scatter_set_hit _ _ _ _ _ _ (fun k hk => ?_) (nine j) (lands (nine j))
  rw [lands] at hk
  have h0 : (k 0).val = j.val := congrArg (fun i : S16.Idx => (i 0).val) (Option.some.inj hk)
  congr 1
  funext a
  match a with
  | ⟨0, _⟩ => exact Fin.ext h0

end Cert.Proof.Digit

end
-- ==== Proof.Order.lean ====
/-
  The boundaries in order, at the ideal values: the comparator the sort uses is the order of the extended reals, so of two
  boundaries the later is not the smaller; and the class the kernels choose by nine comparisons, read as a count of the
  boundaries below the element.
-/
module

public import proofs.«01_k».proof.Proof.Value
public import proofs.«01_k».proof.Proof.Gen.ReferenceIdeal
public import Idealize.ShloMosaic.Lib.SortFacts
public import Idealize.ShloMosaic.PureOps.Ideal.Laws

@[expose] public section

noncomputable section

namespace Cert.Proof.Digit

open Idealize.ShloMosaic

/-! ## The sort -/

/-- A choice by a bit made of a truth value is the choice by the truth value. -/
theorem pick_ofBool {α : Type} (p : Bool) (a b : α) : Scalar.select (BitVec.ofBool p) a b = if p then a else b := by
  cases p <;> rfl

/-- Before the comparison the comparator replaces an element by itself: a zero by zero, and nothing is unordered. -/
theorem tidy (l c n : EReal) : Scalar.select (Ideal.cmp .une l l) n (Scalar.select (Ideal.cmp .oeq l c) c l) = l := by
  have h1 : Ideal.cmp .une l l = BitVec.ofBool false := by simp [Ideal.cmp]
  have h2 : Ideal.cmp .oeq l c = BitVec.ofBool (decide (l = c)) := rfl
  rw [h1, h2, pick_ofBool, pick_ofBool]
  by_cases h : l = c <;> simp [h]

/-- The comparator is the order. -/
theorem before_eq (l r : EReal) : Cert.KernelIdeal.comparator_f32_d0 (F := Ideal) l r = BitVec.ofBool (decide (l < r)) := by
  show Ideal.cmp .olt
      (Scalar.select (Ideal.cmp .une l l) (FloatOps.ofBits (F := Ideal) .f32 0x7FC00000#32)
        (Scalar.select (Ideal.cmp .oeq l (FloatOps.ofBits (F := Ideal) .f32 0x00000000#32)) (FloatOps.ofBits (F := Ideal) .f32 0x00000000#32) l))
      (Scalar.select (Ideal.cmp .une r r) (FloatOps.ofBits (F := Ideal) .f32 0x7FC00000#32)
        (Scalar.select (Ideal.cmp .oeq r (FloatOps.ofBits (F := Ideal) .f32 0x00000000#32)) (FloatOps.ofBits (F := Ideal) .f32 0x00000000#32) r)) = _
  rw [tidy, tidy]
  rfl

/-- Sorted by the comparator, no later element is below an earlier one. -/
theorem sort_mono (y : Cert.KernelIdeal.S9.Idx → EReal) {i j : Fin 9} (hij : i < j) :
    ¬ Host.sort Cert.KernelIdeal.S9 0 (Cert.KernelIdeal.comparator_f32_d0 (F := Ideal)) y (nine j)
      < Host.sort Cert.KernelIdeal.S9 0 (Cert.KernelIdeal.comparator_f32_d0 (F := Ideal)) y (nine i) := by
  have hal : ∀ a k : Fin 9, Shape.Idx.along (s := Cert.KernelIdeal.S9) (nine a) (0 : Fin 1) k = nine k := by
    intro a k
    funext b
    match b with
    | ⟨0, _⟩ => rfl
  have hs : ∀ a : Fin 9, Host.sort Cert.KernelIdeal.S9 0 (Cert.KernelIdeal.comparator_f32_d0 (F := Ideal)) y (nine a)
      = y (nine (sortedFrom (fun k k' : Fin 9 => decide (y (nine k) < y (nine k'))) a)) := by
    intro a
    unfold Host.sort
    rw [dif_pos (by decide)]
    refine (congrArg y (hal a _)).trans (congrArg (fun k : Fin 9 => y (nine k)) ?_)
    refine congrFun (congrArg (sortedFrom (n := 9)) ?_) a
    funext k k'
    refine (congrArg₂ (fun l r : EReal => Cert.KernelIdeal.comparator_f32_d0 (F := Ideal) l r == 1#1) (congrArg y (hal a k)) (congrArg y (hal a k'))).trans ?_
    rw [before_eq]
    cases decide (y (nine k) < y (nine k')) <;> rfl
  rw [hs, hs]
  have h := sortedFrom_noInversion (fun k k' : Fin 9 => decide (y (nine k) < y (nine k'))) (fun k k' : Fin 9 => decide (y (nine k) < y (nine k')))
    (fun a b hab => by simp only [decide_eq_true_eq, decide_eq_false_iff_not] at *; exact not_lt.2 hab.le)
    (fun a b h => h)
    (fun a b c hab hbc => by simp only [decide_eq_false_iff_not, not_lt] at *; exact hbc.trans hab)
    i j hij
  simpa only [decide_eq_false_iff_not] using h

/-- So an element above a boundary is above every earlier one. -/
theorem above_mono (x : Cert.KernelIdeal.S8388608.Idx → EReal) (e : EReal) {i j : Fin 9} (hij : i < j)
    (h : decide (bounds (F := Ideal) x (nine j) < e) = true) : decide (bounds (F := Ideal) x (nine i) < e) = true := by
  rw [decide_eq_true_eq] at *
  exact lt_of_le_of_lt (not_lt.1 (sort_mono _ hij)) h

/-! ## The class, by counting -/

/-- A truth value as a word, one or zero. -/
def word (p : Bool) : BitVec 32 := (BitVec.ofBool p).setWidth 32

/-- The table of classes read at a word, brought into the table's range as the host does. -/
def look (c : BitVec 32) : BitVec 32 :=
  Cert.ReferenceIdeal.lit1 ⟨min (Scalar.select (IntOp.cmpi .slt c 0#32) (IntOp.addi c 10#32) c).toInt.toNat 9, by omega⟩

/-- The nine comparisons, the earlier true whenever the later is, choose the class at their count. -/
theorem choose_count : ∀ p0 p1 p2 p3 p4 p5 p6 p7 p8 : Bool, (p1 = true → p0 = true) → (p2 = true → p1 = true) → (p3 = true → p2 = true)
    → (p4 = true → p3 = true) → (p5 = true → p4 = true) → (p6 = true → p5 = true) → (p7 = true → p6 = true) → (p8 = true → p7 = true) →
    look (word p0 + (word p1 + (word p2 + (word p3 + (word p4 + (word p5 + (word p6 + (word p7 + (word p8 + 0#32)))))))))
      = Scalar.select (BitVec.ofBool p8) 5#32
        (Scalar.select (BitVec.ofBool p7) 6#32
        (Scalar.select (BitVec.ofBool p6) 8#32
        (Scalar.select (BitVec.ofBool p5) 1#32
        (Scalar.select (BitVec.ofBool p4) 4#32
        (Scalar.select (BitVec.ofBool p3) 5#32
        (Scalar.select (BitVec.ofBool p2) 2#32
        (Scalar.select (BitVec.ofBool p1) 4#32
        (Scalar.select (BitVec.ofBool p0) 2#32 5#32)))))))) := by
  decide +kernel

/-- How many of the boundaries are below `e`, as a word. -/
def below (b : Cert.KernelIdeal.S9.Idx → EReal) (e : EReal) : BitVec 32 :=
  word (decide (b (nine 0) < e)) + (word (decide (b (nine 1) < e)) + (word (decide (b (nine 2) < e)) + (word (decide (b (nine 3) < e))
    + (word (decide (b (nine 4) < e)) + (word (decide (b (nine 5) < e)) + (word (decide (b (nine 6) < e)) + (word (decide (b (nine 7) < e))
    + (word (decide (b (nine 8) < e)) + 0#32))))))))

/-- The kernels' class is the table's entry at the number of boundaries below the element. -/
theorem digit_eq (v : Cert.KernelIdeal.S16.Idx → EReal) (x : Cert.KernelIdeal.S8388608.Idx → EReal) (e : EReal)
    (hv : ∀ j : Fin 9, v (lane (j.castLE (by decide))) = bounds (F := Ideal) x (nine j)) :
    digit (F := Ideal) v e = look (below (bounds (F := Ideal) x) e) := by
  unfold below
  rw [choose_count _ _ _ _ _ _ _ _ _ (above_mono x e (by decide)) (above_mono x e (by decide)) (above_mono x e (by decide)) (above_mono x e (by decide))
    (above_mono x e (by decide)) (above_mono x e (by decide)) (above_mono x e (by decide)) (above_mono x e (by decide))]
  rw [← hv 0, ← hv 1, ← hv 2, ← hv 3, ← hv 4, ← hv 5, ← hv 6, ← hv 7, ← hv 8]
  rfl

end Cert.Proof.Digit

end
-- ==== Proof.Reference.lean ====
/-
  The reference's result, element by element: the table's entry at the number of boundaries below the element. Its
  boundaries are the kernels', built by the same operations.
-/
module

public import proofs.«01_k».proof.Proof.Order
public import Idealize.ShloMosaic.Lib.Pipeline.Value
public import proofs.«01_k».proof.Proof.Gen.ReferenceIdeal.Run

@[expose] public section

noncomputable section

namespace Cert.Proof.Digit

open Cert.ReferenceIdeal Cert.ReferenceIdeal.Gen
open Idealize.ShloMosaic

/-! ## The count -/

/-- The comparisons of every element with every boundary, added along the boundaries. -/
def counts (b : S9.Idx → EReal) (x : S8388608.Idx → EReal) : S8388608.Idx → BitVec 32 :=
  Host.reduce IntOp.addi (extui 32 (cmpf (F := Ideal) (φ := .f32) .olt
      (broadcastInDim S8388608x9 ![0, 1] bcast_S1x9_S8388608x9_0_1 (broadcastInDim S1x9 ![1] bcast_S9_S1x9_1 b))
      (broadcastInDim S8388608x9 ![0, 1] bcast_S8388608x1_S8388608x9_0_1 (broadcastInDim S8388608x1 ![0] bcast_S8388608_S8388608x1_0 x))) natLt_1_32)
    (constantI S_ 32 0#32) reducesTo_S8388608x9_S8388608_d1 h_S_

/-- The comparison of element `i` with boundary `k`. -/
theorem compared (b : S9.Idx → EReal) (x : S8388608.Idx → EReal) (j : S8388608x9.Idx) (i : S8388608.Idx) (k : Fin 9)
    (h0 : (j 0).val = (i 0).val) (h1 : (j 1).val = k.val) :
    extui 32 (cmpf (F := Ideal) (φ := .f32) .olt
      (broadcastInDim S8388608x9 ![0, 1] bcast_S1x9_S8388608x9_0_1 (broadcastInDim S1x9 ![1] bcast_S9_S1x9_1 b))
      (broadcastInDim S8388608x9 ![0, 1] bcast_S8388608x1_S8388608x9_0_1 (broadcastInDim S8388608x1 ![0] bcast_S8388608_S8388608x1_0 x))) natLt_1_32 j
      = word (decide (b (nine k) < x i)) := by
  have hb : broadcastInDim S8388608x9 ![0, 1] bcast_S1x9_S8388608x9_0_1 (broadcastInDim S1x9 ![1] bcast_S9_S1x9_1 b) j = b (nine k) := by
    refine (broadcastInDim_apply (s := S1x9) (t := S8388608x9) ![(0 : Fin 2), (1 : Fin 2)] bcast_S1x9_S8388608x9_0_1 _ j (fun a => match a with | ⟨0, _⟩ => (0 : Fin 1) | ⟨1, _⟩ => k : S1x9.Idx)
      (fun a => match a with | ⟨0, _⟩ => rfl | ⟨1, _⟩ => h1.symm.trans (if_neg (show ¬ (9 : Nat) = 1 by decide)).symm)).trans ?_
    exact broadcastInDim_apply _ _ _ _ (nine k) (fun a => match a with | ⟨0, _⟩ => rfl)
  have hx : broadcastInDim S8388608x9 ![0, 1] bcast_S8388608x1_S8388608x9_0_1 (broadcastInDim S8388608x1 ![0] bcast_S8388608_S8388608x1_0 x) j = x i := by
    refine (broadcastInDim_apply (s := S8388608x1) (t := S8388608x9) ![(0 : Fin 2), (1 : Fin 2)] bcast_S8388608x1_S8388608x9_0_1 _ j (fun a => match a with | ⟨0, _⟩ => i 0 | ⟨1, _⟩ => (0 : Fin 1) : S8388608x1.Idx)
      (fun a => match a with | ⟨0, _⟩ => h0.symm.trans (if_neg (show ¬ (8388608 : Nat) = 1 by decide)).symm | ⟨1, _⟩ => rfl)).trans ?_
    exact broadcastInDim_apply _ _ _ _ i (fun a => match a with | ⟨0, _⟩ => rfl)
  show (Ideal.cmp .olt _ _).setWidth 32 = _
  rw [hb, hx]
  rfl

/-- A sum over nine places, spelt out. -/
theorem nine_fold (g : Fin 9 → BitVec 32) (z : BitVec 32) : (Finset.univ : Finset (Fin 9)).fold IntOp.addi z g
    = g 0 + (g 1 + (g 2 + (g 3 + (g 4 + (g 5 + (g 6 + (g 7 + (g 8 + z)))))))) := rfl

theorem reduces_rows : S8388608x9.Reduces [1] S8388608 := by decide

/-- The count at element `i`. -/
theorem counts_val (b : S9.Idx → EReal) (x : S8388608.Idx → EReal) (i : S8388608.Idx) : counts b x i = below b (x i) := by
  unfold counts
  rw [Host.reduce_eq_fold_single IntOp.addi _ _ _ reduces_rows]
  have hg : ∀ k : Fin 9, (extui 32 (cmpf (F := Ideal) (φ := .f32) .olt
      (broadcastInDim S8388608x9 ![0, 1] bcast_S1x9_S8388608x9_0_1 (broadcastInDim S1x9 ![1] bcast_S9_S1x9_1 b))
      (broadcastInDim S8388608x9 ![0, 1] bcast_S8388608x1_S8388608x9_0_1 (broadcastInDim S8388608x1 ![0] bcast_S8388608_S8388608x1_0 x))) natLt_1_32 ∘ reduces_rows.lift i) k
      = word (decide (b (nine k) < x i)) := fun k => compared b x (reduces_rows.lift i k) i k rfl rfl
  refine (nine_fold _ _).trans ?_
  rw [hg 0, hg 1, hg 2, hg 3, hg 4, hg 5, hg 6, hg 7, hg 8]
  rfl

/-! ## The table -/

/-- The table of classes read at every element of an array of words. -/
def classes (n : S8388608.Idx → BitVec 32) : S8388608.Idx → BitVec 32 :=
  Host.gather gather_S10_S8388608x1_S8388608_n_0_n_n_0_1_1 (fun i => lit1 (S10.rowMajor i))
    (broadcastInDim S8388608x1 ![0] bcast_S8388608_S8388608x1_0
      (select (cmpi .slt n (broadcastInDim S8388608 ![] bcast_S_S8388608 (constantI S_ 32 0#32)))
        (addi n (broadcastInDim S8388608 ![] bcast_S_S8388608 (constantI S_ 32 10#32))) n))

/-- Place `k` of the table. -/
abbrev ten (k : Fin 10) : S10.Idx := fun | 0 => k | ⟨_ + 1, h⟩ => absurd h (Nat.not_lt.2 (Nat.le_add_left _ _))

theorem ten_place (k : Fin 10) : S10.rowMajor (ten k) = k := by
  refine Fin.ext ?_
  rw [Shape.rowMajor_val_one]

/-- Where a gather from the table reads: at the word of its element, brought into range. -/
theorem gather_table {α : Type} (y : S10.Idx → α) (ix : IVec S8388608x1 32) (i : S8388608.Idx) (w : BitVec 32)
    (hw : ix (fun a => match a with | ⟨0, _⟩ => i 0 | ⟨1, _⟩ => (0 : Fin 1)) = w) :
    Host.gather gather_S10_S8388608x1_S8388608_n_0_n_n_0_1_1 y ix i = y (ten ⟨min w.toInt.toNat 9, by omega⟩) := by
  unfold Host.gather
  congr 1
  funext a
  match a with
  | ⟨0, _⟩ =>
    refine Fin.ext ?_
    show gather_S10_S8388608x1_S8388608_n_0_n_n_0_1_1.start i ix 0 + gather_S10_S8388608x1_S8388608_n_0_n_n_0_1_1.batchCoord i 0
      + gather_S10_S8388608x1_S8388608_n_0_n_n_0_1_1.offCoord i 0 = min w.toInt.toNat 9
    have hb : gather_S10_S8388608x1_S8388608_n_0_n_n_0_1_1.batchCoord i 0 = 0 := GatherDims.batchCoord_eq_zero _ _ _ (by decide)
    have ho : gather_S10_S8388608x1_S8388608_n_0_n_n_0_1_1.offCoord i 0 = 0 := rfl
    have hs : gather_S10_S8388608x1_S8388608_n_0_n_n_0_1_1.start i ix 0 = min w.toInt.toNat 9 := by
      rw [← hw]
      unfold GatherDims.start
      rw [dif_pos (show (0 : Fin 1) ∈ gather_S10_S8388608x1_S8388608_n_0_n_n_0_1_1.startIndexMap from List.mem_singleton.mpr rfl)]
      congr 4
      funext b
      match b with
      | ⟨0, _⟩ => rfl
      | ⟨1, _⟩ => rfl
    rw [hs, hb, ho]; omega

/-- The table read at element `i` is its entry at the element's word. -/
theorem classes_val (n : S8388608.Idx → BitVec 32) (i : S8388608.Idx) : classes n i = look (n i) := by
  unfold classes
  rw [gather_table _ _ i (Scalar.select (IntOp.cmpi .slt (n i) 0#32) (IntOp.addi (n i) 10#32) (n i)) ?_]
  · exact congrArg lit1 (ten_place _)
  · exact broadcastInDim_apply _ _ _ _ i (fun a => match a with | ⟨0, _⟩ => rfl)

/-! ## The run -/

/-- The reference's boundaries are the kernels'. -/
theorem bounds_same (x : S8388608.Idx → EReal) :
    (Host.sort S9 0 (comparator_f32_d0 (F := Ideal)) (Host.gather gather_S8388608_S9x1_S9_n_0_n_n_0_1_1 x
      (broadcastInDim S9x1 ![0] bcast_S9_S9x1_0
        (select (cmpi .slt ((fun i => lit0 (S9.rowMajor i))) (broadcastInDim S9 ![] bcast_S_S9 (constantI S_ 32 0#32)))
          (addi ((fun i => lit0 (S9.rowMajor i))) (broadcastInDim S9 ![] bcast_S_S9 (constantI S_ 32 8388608#32)))
          ((fun i => lit0 (S9.rowMajor i)))))) : S9.Idx → EReal) = bounds (F := Ideal) x := rfl

/-- Every element of the reference's result is the table's entry at the number of boundaries below the element. -/
theorem reference_val (x : S8388608.Idx → EReal) (i : S8388608.Idx) :
    classes (counts (bounds (F := Ideal) x) x) i = look (below (bounds (F := Ideal) x) (x i)) := by
  rw [classes_val, counts_val]

end Cert.Proof.Digit

end
-- ==== Proof.Equal.lean ====
/-
  The kernel's result is the reference's, at the ideal values.
-/
module

public import proofs.«01_k».proof.Proof.Frames
public import proofs.«01_k».proof.Proof.Reference

@[expose] public section

noncomputable section

namespace Cert.Proof.Digit

open Idealize.ShloMosaic Idealize.SL.Sem

/-- The kernel's result, as an array: the reference's term of the same input. -/
theorem result_eq (m : (ℓ : Loc Cert.KernelIdeal.nD Cert.KernelIdeal.τ Cert.KernelIdeal.sig) → Buf (Elt Ideal) ℓ) (d : Dev Cert.KernelIdeal.nD) :
    (show Cert.KernelIdeal.S8388608.Idx → BitVec 32 from V4 m d (Proc.devRef .tc Cert.KernelIdeal.main_v13))
      = classes (counts (bounds (F := Ideal) (show Cert.KernelIdeal.S8388608.Idx → EReal from m (xLoc d)))
          (show Cert.KernelIdeal.S8388608.Idx → EReal from m (xLoc d))) := by
  funext i
  rw [reference_val]
  exact (V4_val m d i).trans (digit_eq _ _ _ fun j => Bm_lane m d j)

/-- From memories that agree on the argument the two programs end with equal results. -/
theorem equal : Cert.algebraic_KernelIdeal_ReferenceIdeal := fun m g m' g' _ hm =>
  ⟨fun c => V4 m c (Proc.devRef .tc Cert.KernelIdeal.main_v13),
    (θ_run Cert.KernelIdeal.defs _ _).mono (fun _ h c => ⟨(h.1 c).2, (h.1 c).1.trans (V4_arg0 m c)⟩) (run_V4 (F := Ideal) m g),
    (θ_run Cert.ReferenceIdeal.defs _ _).mono (fun _ h c => ⟨(h c).1.trans (by rw [hm c]; exact (result_eq m c).symm), (h c).2⟩)
      (Cert.ReferenceIdeal.Value.run m' g')⟩

end Cert.Proof.Digit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Digit.frame_bits, Digit.frame_ideal, Digit.frame_reference, trivial, Digit.equal⟩

end Cert.Proof

end
